-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x32x256 : Shape := ⟨4, ![32, 1, 32, 256]⟩
abbrev S32x1x4x256 : Shape := ⟨4, ![32, 1, 4, 256]⟩
abbrev S32x192x4x256 : Shape := ⟨4, ![32, 192, 4, 256]⟩
abbrev S32x192x4 : Shape := ⟨3, ![32, 192, 4]⟩
abbrev S32x4x192 : Shape := ⟨3, ![32, 4, 192]⟩
abbrev S32x32x256 : Shape := ⟨3, ![32, 32, 256]⟩
abbrev S32x4x256 : Shape := ⟨3, ![32, 4, 256]⟩
abbrev S6144x4x256 : Shape := ⟨3, ![6144, 4, 256]⟩
abbrev S32x1x768 : Shape := ⟨3, ![32, 1, 768]⟩
abbrev S8x32x256 : Shape := ⟨3, ![8, 32, 256]⟩
abbrev S8x4x256 : Shape := ⟨3, ![8, 4, 256]⟩
abbrev S1536x4x256 : Shape := ⟨3, ![1536, 4, 256]⟩
abbrev S8x1x768 : Shape := ⟨3, ![8, 1, 768]⟩
abbrev S8x4x192 : Shape := ⟨3, ![8, 4, 192]⟩
abbrev S8x768 : Shape := ⟨2, ![8, 768]⟩
abbrev S8x128 : Shape := ⟨2, ![8, 128]⟩
abbrev S1x32x256 : Shape := ⟨3, ![1, 32, 256]⟩
abbrev S32x256 : Shape := ⟨2, ![32, 256]⟩
abbrev S192x4x256 : Shape := ⟨3, ![192, 4, 256]⟩
abbrev S768x256 : Shape := ⟨2, ![768, 256]⟩
abbrev S1x4x256 : Shape := ⟨3, ![1, 4, 256]⟩
abbrev S4x256 : Shape := ⟨2, ![4, 256]⟩
abbrev S128x256 : Shape := ⟨2, ![128, 256]⟩
abbrev S32x768 : Shape := ⟨2, ![32, 768]⟩
abbrev S32x128 : Shape := ⟨2, ![32, 128]⟩
abbrev S1x1x768 : Shape := ⟨3, ![1, 1, 768]⟩
abbrev S1x768 : Shape := ⟨2, ![1, 768]⟩
abbrev S768 : Shape := ⟨1, ![768]⟩
abbrev S8x4x768 : Shape := ⟨3, ![8, 4, 768]⟩
abbrev S768x192 : Shape := ⟨2, ![768, 192]⟩
abbrev S32x192 : Shape := ⟨2, ![32, 192]⟩

abbrev nBuf : Space → Nat
  | .hbm => 17
  | .vmem => 20
  | .smem => 0
  | _ => 0

abbrev bufTy : (tb : Table) → Fin (tcTables nBuf tb) → BufTy
  | .hbm, ⟨0, _⟩ => ⟨S32x1x32x256, .bf16⟩
  | .hbm, ⟨1, _⟩ => ⟨S32x1x4x256, .bf16⟩
  | .hbm, ⟨2, _⟩ => ⟨S32x1x4x256, .bf16⟩
  | .hbm, ⟨3, _⟩ => ⟨S32x192x4x256, .i8⟩
  | .hbm, ⟨4, _⟩ => ⟨S32x192x4, .f32⟩
  | .hbm, ⟨5, _⟩ => ⟨S32x192x4x256, .i8⟩
  | .hbm, ⟨6, _⟩ => ⟨S32x192x4, .f32⟩
  | .hbm, ⟨7, _⟩ => ⟨S32x4x192, .f32⟩
  | .hbm, ⟨8, _⟩ => ⟨S32x32x256, .bf16⟩
  | .hbm, ⟨9, _⟩ => ⟨S32x4x256, .bf16⟩
  | .hbm, ⟨10, _⟩ => ⟨S32x4x256, .bf16⟩
  | .hbm, ⟨11, _⟩ => ⟨S6144x4x256, .i8⟩
  | .hbm, ⟨12, _⟩ => ⟨S6144x4x256, .i8⟩
  | .hbm, ⟨13, _⟩ => ⟨S32x1x768, .f32⟩
  | .hbm, ⟨14, _⟩ => ⟨S32x1x768, .f32⟩
  | .hbm, ⟨15, _⟩ => ⟨S32x32x256, .bf16⟩
  | .hbm, ⟨16, _⟩ => ⟨S32x4x192, .f32⟩
  | .local _ .vmem, ⟨0, _⟩ => ⟨S8x32x256, .bf16⟩
  | .local _ .vmem, ⟨1, _⟩ => ⟨S8x32x256, .bf16⟩
  | .local _ .vmem, ⟨2, _⟩ => ⟨S8x4x256, .bf16⟩
  | .local _ .vmem, ⟨3, _⟩ => ⟨S8x4x256, .bf16⟩
  | .local _ .vmem, ⟨4, _⟩ => ⟨S8x4x256, .bf16⟩
  | .local _ .vmem, ⟨5, _⟩ => ⟨S8x4x256, .bf16⟩
  | .local _ .vmem, ⟨6, _⟩ => ⟨S1536x4x256, .i8⟩
  | .local _ .vmem, ⟨7, _⟩ => ⟨S1536x4x256, .i8⟩
  | .local _ .vmem, ⟨8, _⟩ => ⟨S1536x4x256, .i8⟩
  | .local _ .vmem, ⟨9, _⟩ => ⟨S1536x4x256, .i8⟩
  | .local _ .vmem, ⟨10, _⟩ => ⟨S8x1x768, .f32⟩
  | .local _ .vmem, ⟨11, _⟩ => ⟨S8x1x768, .f32⟩
  | .local _ .vmem, ⟨12, _⟩ => ⟨S8x1x768, .f32⟩
  | .local _ .vmem, ⟨13, _⟩ => ⟨S8x1x768, .f32⟩
  | .local _ .vmem, ⟨14, _⟩ => ⟨S8x4x192, .f32⟩
  | .local _ .vmem, ⟨15, _⟩ => ⟨S8x4x192, .f32⟩
  | .local _ .vmem, ⟨16, _⟩ => ⟨S8x32x256, .bf16⟩
  | .local _ .vmem, ⟨17, _⟩ => ⟨S8x32x256, .bf16⟩
  | .local _ .vmem, ⟨18, _⟩ => ⟨S8x4x192, .f32⟩
  | .local _ .vmem, ⟨19, _⟩ => ⟨S8x4x192, .f32⟩
  | _, _ => ⟨S32x1x32x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x32x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1536x4x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x4x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x32x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x4x192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S32x1x32x256 : Shape := ⟨4, ![32, 1, 32, 256]⟩
abbrev S32x1x4x256 : Shape := ⟨4, ![32, 1, 4, 256]⟩
abbrev S32x192x4x256 : Shape := ⟨4, ![32, 192, 4, 256]⟩
abbrev S32x192x4 : Shape := ⟨3, ![32, 192, 4]⟩
abbrev S32x4x192 : Shape := ⟨3, ![32, 4, 192]⟩
abbrev S32x1x4x8x256 : Shape := ⟨5, ![32, 1, 4, 8, 256]⟩
abbrev S32x4x1x1x192 : Shape := ⟨5, ![32, 4, 1, 1, 192]⟩
abbrev S32x4x192x1x8 : Shape := ⟨5, ![32, 4, 192, 1, 8]⟩
abbrev S32x4x8x1x192 : Shape := ⟨5, ![32, 4, 8, 1, 192]⟩
abbrev S_ : Shape := ⟨0, ![]⟩
abbrev S32x4x1x1x8 : Shape := ⟨5, ![32, 4, 1, 1, 8]⟩
abbrev S32x4x8x1x1 : Shape := ⟨5, ![32, 4, 8, 1, 1]⟩
abbrev S1 : Shape := ⟨1, ![1]⟩
abbrev S1x1 : Shape := ⟨2, ![1, 1]⟩
abbrev S32x4x8x1x193 : Shape := ⟨5, ![32, 4, 8, 1, 193]⟩
abbrev S32x4x8x1 : Shape := ⟨4, ![32, 4, 8, 1]⟩
abbrev S32x4x8x1x256 : Shape := ⟨5, ![32, 4, 8, 1, 256]⟩
abbrev S32x32x256 : Shape := ⟨3, ![32, 32, 256]⟩

abbrev nBuf : Space → Nat
  | .hbm => 71
  | .vmem => 0
  | .smem => 0
  | _ => 0

abbrev bufTy : (tb : Table) → Fin (tcTables nBuf tb) → BufTy
  | .hbm, ⟨0, _⟩ => ⟨S32x1x32x256, .bf16⟩
  | .hbm, ⟨1, _⟩ => ⟨S32x1x4x256, .bf16⟩
  | .hbm, ⟨2, _⟩ => ⟨S32x1x4x256, .bf16⟩
  | .hbm, ⟨3, _⟩ => ⟨S32x192x4x256, .i8⟩
  | .hbm, ⟨4, _⟩ => ⟨S32x192x4, .f32⟩
  | .hbm, ⟨5, _⟩ => ⟨S32x192x4x256, .i8⟩
  | .hbm, ⟨6, _⟩ => ⟨S32x192x4, .f32⟩
  | .hbm, ⟨7, _⟩ => ⟨S32x4x192, .f32⟩
  | .hbm, ⟨8, _⟩ => ⟨S32x1x4x8x256, .bf16⟩
  | .hbm, ⟨9, _⟩ => ⟨S32x4x192, .f32⟩
  | .hbm, ⟨10, _⟩ => ⟨S32x4x1x1x192, .f32⟩
  | .hbm, ⟨11, _⟩ => ⟨S32x4x192, .f32⟩
  | .hbm, ⟨12, _⟩ => ⟨S32x4x1x1x192, .f32⟩
  | .hbm, ⟨13, _⟩ => ⟨S32x192x4x256, .i32⟩
  | .hbm, ⟨14, _⟩ => ⟨S32x192x4x256, .f32⟩
  | .hbm, ⟨15, _⟩ => ⟨S32x192x4x256, .bf16⟩
  | .hbm, ⟨16, _⟩ => ⟨S32x4x192x1x8, .f32⟩
  | .hbm, ⟨17, _⟩ => ⟨S32x4x8x1x192, .f32⟩
  | .hbm, ⟨18, _⟩ => ⟨S_, .f32⟩
  | .hbm, ⟨19, _⟩ => ⟨S32x4x1x1x192, .f32⟩
  | .hbm, ⟨20, _⟩ => ⟨S32x4x1x1x192, .f32⟩
  | .hbm, ⟨21, _⟩ => ⟨S32x4x8x1x192, .f32⟩
  | .hbm, ⟨22, _⟩ => ⟨S32x4x8x1x192, .f32⟩
  | .hbm, ⟨23, _⟩ => ⟨S32x4x1x1x8, .f32⟩
  | .hbm, ⟨24, _⟩ => ⟨S32x4x8x1x1, .f32⟩
  | .hbm, ⟨25, _⟩ => ⟨S_, .f32⟩
  | .hbm, ⟨26, _⟩ => ⟨S32x4x8x1x1, .f32⟩
  | .hbm, ⟨27, _⟩ => ⟨S32x4x8x1x1, .f32⟩
  | .hbm, ⟨28, _⟩ => ⟨S1, .i32⟩
  | .hbm, ⟨29, _⟩ => ⟨S1x1, .i32⟩
  | .hbm, ⟨30, _⟩ => ⟨S1, .i32⟩
  | .hbm, ⟨31, _⟩ => ⟨S1x1, .i32⟩
  | .hbm, ⟨32, _⟩ => ⟨S1x1, .i1⟩
  | .hbm, ⟨33, _⟩ => ⟨S_, .f32⟩
  | .hbm, ⟨34, _⟩ => ⟨S_, .f32⟩
  | .hbm, ⟨35, _⟩ => ⟨S32x4x8x1x1, .i1⟩
  | .hbm, ⟨36, _⟩ => ⟨S32x4x8x1x1, .f32⟩
  | .hbm, ⟨37, _⟩ => ⟨S32x4x8x1x1, .f32⟩
  | .hbm, ⟨38, _⟩ => ⟨S32x4x8x1x193, .f32⟩
  | .hbm, ⟨39, _⟩ => ⟨S_, .f32⟩
  | .hbm, ⟨40, _⟩ => ⟨S32x4x8x1, .f32⟩
  | .hbm, ⟨41, _⟩ => ⟨S_, .f32⟩
  | .hbm, ⟨42, _⟩ => ⟨S32x4x8x1, .f32⟩
  | .hbm, ⟨43, _⟩ => ⟨S32x4x8x1, .f32⟩
  | .hbm, ⟨44, _⟩ => ⟨S32x4x8x1x1, .f32⟩
  | .hbm, ⟨45, _⟩ => ⟨S32x4x8x1x193, .f32⟩
  | .hbm, ⟨46, _⟩ => ⟨S32x4x8x1x193, .f32⟩
  | .hbm, ⟨47, _⟩ => ⟨S32x4x8x1x193, .f32⟩
  | .hbm, ⟨48, _⟩ => ⟨S_, .f32⟩
  | .hbm, ⟨49, _⟩ => ⟨S32x4x8x1, .f32⟩
  | .hbm, ⟨50, _⟩ => ⟨S32x4x8x1x1, .f32⟩
  | .hbm, ⟨51, _⟩ => ⟨S32x4x8x1x193, .f32⟩
  | .hbm, ⟨52, _⟩ => ⟨S32x4x8x1x193, .f32⟩
  | .hbm, ⟨53, _⟩ => ⟨S32x4x8x1x192, .f32⟩
  | .hbm, ⟨54, _⟩ => ⟨S32x4x8x1x1, .f32⟩
  | .hbm, ⟨55, _⟩ => ⟨S32x4x8x1x192, .f32⟩
  | .hbm, ⟨56, _⟩ => ⟨S32x4x8x1x192, .f32⟩
  | .hbm, ⟨57, _⟩ => ⟨S32x4x8x1x192, .bf16⟩
  | .hbm, ⟨58, _⟩ => ⟨S32x192x4x256, .i32⟩
  | .hbm, ⟨59, _⟩ => ⟨S32x192x4x256, .f32⟩
  | .hbm, ⟨60, _⟩ => ⟨S32x192x4x256, .bf16⟩
  | .hbm, ⟨61, _⟩ => ⟨S32x4x8x1x256, .f32⟩
  | .hbm, ⟨62, _⟩ => ⟨S32x4x8x1x1, .bf16⟩
  | .hbm, ⟨63, _⟩ => ⟨S32x4x8x1x256, .f32⟩
  | .hbm, ⟨64, _⟩ => ⟨S32x4x8x1x256, .f32⟩
  | .hbm, ⟨65, _⟩ => ⟨S32x1x4x8x256, .f32⟩
  | .hbm, ⟨66, _⟩ => ⟨S32x32x256, .f32⟩
  | .hbm, ⟨67, _⟩ => ⟨S32x32x256, .bf16⟩
  | .hbm, ⟨68, _⟩ => ⟨S_, .f32⟩
  | .hbm, ⟨69, _⟩ => ⟨S32x4x192, .f32⟩
  | .hbm, ⟨70, _⟩ => ⟨S32x4x192, .f32⟩
  | _, _ => ⟨S32x1x32x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_5 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Proof.Pieces.lean ====
module

public import proofs.«01_k».proof.Proof.Gen.KernelIdeal.Value
public import Idealize.ShloMosaic.PureOps.Ideal

/-!
# What the body of `attend` computes, one batch at a time

The body handles eight batches per grid point with the same text. Here that text is stated once, as functions of the
slices loaded for one batch, and both staging buffers are shown to hold eight copies of it.
-/

@[expose] public section

set_option maxRecDepth 16384

noncomputable section

namespace Cert.KernelIdeal.Attend

open Cert.KernelIdeal Cert.KernelIdeal.Gen Idealize.ShloMosaic

/-- The scaled scores of one batch's kept rows, `S8x768`: column `c` holds kept row `c / 4` of key/value head `c % 4`. -/
def scores (q : Vec Ideal S1x32x256 .bf16) (kk : Vec Ideal S192x4x256 .i8) (ks : Vec Ideal S1x1x768 .f32) : FVec Ideal S8x768 .f32 :=
  k0_pay10 k0_pay2 (k0_pay4 q) (k0_pay5 kk) ks

/-- The scaled scores of one batch's new row, `S8x128`: lane `l` holds key/value head `l % 4`. -/
def newScores (q : Vec Ideal S1x32x256 .bf16) (kn : Vec Ideal S1x4x256 .bf16) : FVec Ideal S8x128 .f32 :=
  k0_pay11 k0_pay3 (k0_pay4 q) (k0_pay7 kn)

/-- The running maximum over the new row and the first five lane tiles of the kept rows' scores. -/
def partialMax (s : FVec Ideal S8x768 .f32) (sn : FVec Ideal S8x128 .f32) : FVec Ideal S8x128 .f32 :=
  maximumf (maximumf (maximumf (maximumf (maximumf sn
    (extractStridedSlice S8x128 ![0, 0] s slices_S8x768_o0_0_S8x128))
    (extractStridedSlice S8x128 ![0, 128] s slices_S8x768_o0_128_S8x128))
    (extractStridedSlice S8x128 ![0, 256] s slices_S8x768_o0_256_S8x128))
    (extractStridedSlice S8x128 ![0, 384] s slices_S8x768_o0_384_S8x128))
    (extractStridedSlice S8x128 ![0, 512] s slices_S8x768_o0_512_S8x128)

/-- The kept rows' probabilities from the scores. -/
def probs (s : FVec Ideal S8x768 .f32) (sn : FVec Ideal S8x128 .f32) : FVec Ideal S8x768 .f32 :=
  k0_pay17 s sn (partialMax s sn)

/-- The new row's probability from the scores. -/
def newProbs (s : FVec Ideal S8x768 .f32) (sn : FVec Ideal S8x128 .f32) : FVec Ideal S8x128 .f32 :=
  k0_pay18 s sn (partialMax s sn)

/-- One batch's probabilities summed over the eight query rows of a group. -/
def massRow (q : Vec Ideal S1x32x256 .bf16) (kk : Vec Ideal S192x4x256 .i8) (kn : Vec Ideal S1x4x256 .bf16)
    (ks : Vec Ideal S1x1x768 .f32) : FVec Ideal S1x768 .f32 :=
  k0_pay19 (scores q kk ks) (newScores q kn) (partialMax (scores q kk ks) (newScores q kn))

/-- One batch's attention output, from its probabilities. -/
def outOf (p : FVec Ideal S8x768 .f32) (pn : FVec Ideal S8x128 .f32) (kv : Vec Ideal S192x4x256 .i8)
    (vn : Vec Ideal S1x4x256 .bf16) (vs : Vec Ideal S1x1x768 .f32) : FVec Ideal S1x32x256 .bf16 :=
  k0_pay22 (k0_pay21 k0_pay2 (iota .tc S8x128 32 [1] iota_S8x128_d1_w32) (k0_pay6 kv) (k0_pay9 (k0_pay8 vn)) p pn (k0_pay20 vs))

/-- One batch's attention output, from the loaded slices. -/
def outPiece (q : Vec Ideal S1x32x256 .bf16) (kk kv : Vec Ideal S192x4x256 .i8) (kn vn : Vec Ideal S1x4x256 .bf16)
    (ks vs : Vec Ideal S1x1x768 .f32) : FVec Ideal S1x32x256 .bf16 :=
  outOf (probs (scores q kk ks) (newScores q kn)) (newProbs (scores q kk ks) (newScores q kn)) kv vn vs

set_option maxHeartbeats 4000000 in
/-- The output staging buffer holds one `outPiece` per batch. -/
theorem out0_8_eq (x0 : Vec Ideal S8x32x256 .bf16) (x1 x2 : Vec Ideal S8x4x256 .bf16) (x3 x4 : Vec Ideal S1536x4x256 .i8)
    (x5 x6 : Vec Ideal S8x1x768 .f32) (x7 : Vec Ideal S8x4x192 .f32) :
    out0_8 x0 x1 x2 x3 x4 x5 x6 x7 = View.canon [
    ⟨r0_28, outPiece (View.ld x0 r0_28) (View.ld x3 r0_29) (View.ld x4 r0_29) (View.ld x1 r0_30) (View.ld x2 r0_30)
      (View.ld x5 r0_31) (View.ld x6 r0_31)⟩,
    ⟨r0_24, outPiece (View.ld x0 r0_24) (View.ld x3 r0_25) (View.ld x4 r0_25) (View.ld x1 r0_26) (View.ld x2 r0_26)
      (View.ld x5 r0_27) (View.ld x6 r0_27)⟩,
    ⟨r0_20, outPiece (View.ld x0 r0_20) (View.ld x3 r0_21) (View.ld x4 r0_21) (View.ld x1 r0_22) (View.ld x2 r0_22)
      (View.ld x5 r0_23) (View.ld x6 r0_23)⟩,
    ⟨r0_16, outPiece (View.ld x0 r0_16) (View.ld x3 r0_17) (View.ld x4 r0_17) (View.ld x1 r0_18) (View.ld x2 r0_18)
      (View.ld x5 r0_19) (View.ld x6 r0_19)⟩,
    ⟨r0_12, outPiece (View.ld x0 r0_12) (View.ld x3 r0_13) (View.ld x4 r0_13) (View.ld x1 r0_14) (View.ld x2 r0_14)
      (View.ld x5 r0_15) (View.ld x6 r0_15)⟩,
    ⟨r0_8, outPiece (View.ld x0 r0_8) (View.ld x3 r0_9) (View.ld x4 r0_9) (View.ld x1 r0_10) (View.ld x2 r0_10)
      (View.ld x5 r0_11) (View.ld x6 r0_11)⟩,
    ⟨r0_4, outPiece (View.ld x0 r0_4) (View.ld x3 r0_5) (View.ld x4 r0_5) (View.ld x1 r0_6) (View.ld x2 r0_6)
      (View.ld x5 r0_7) (View.ld x6 r0_7)⟩,
    ⟨r0_0, outPiece (View.ld x0 r0_0) (View.ld x3 r0_1) (View.ld x4 r0_1) (View.ld x1 r0_2) (View.ld x2 r0_2)
      (View.ld x5 r0_3) (View.ld x6 r0_3)⟩] := rfl

/-- The rows of `massRow`, one per batch, spread over the four key/value heads and masked to each head's own columns. -/
def massTable (x0 : Vec Ideal S8x32x256 .bf16) (x1 x2 : Vec Ideal S8x4x256 .bf16) (x3 x4 : Vec Ideal S1536x4x256 .i8)
    (x5 x6 : Vec Ideal S8x1x768 .f32) (x7 : Vec Ideal S8x4x192 .f32) : FVec Ideal S32x768 .f32 :=
  k0_pay171 (k0_pay170
    (massRow (View.ld x0 r0_0) (View.ld x3 r0_1) (View.ld x1 r0_2) (View.ld x5 r0_3))
    (massRow (View.ld x0 r0_4) (View.ld x3 r0_5) (View.ld x1 r0_6) (View.ld x5 r0_7))
    (massRow (View.ld x0 r0_8) (View.ld x3 r0_9) (View.ld x1 r0_10) (View.ld x5 r0_11))
    (massRow (View.ld x0 r0_12) (View.ld x3 r0_13) (View.ld x1 r0_14) (View.ld x5 r0_15))
    (massRow (View.ld x0 r0_16) (View.ld x3 r0_17) (View.ld x1 r0_18) (View.ld x5 r0_19))
    (massRow (View.ld x0 r0_20) (View.ld x3 r0_21) (View.ld x1 r0_22) (View.ld x5 r0_23))
    (massRow (View.ld x0 r0_24) (View.ld x3 r0_25) (View.ld x1 r0_26) (View.ld x5 r0_27))
    (massRow (View.ld x0 r0_28) (View.ld x3 r0_29) (View.ld x1 r0_30) (View.ld x5 r0_31)))
    (iota .tc S32x768 32 [1] iota_S32x768_d1_w32)

set_option maxHeartbeats 4000000 in
/-- The score staging buffer: the old scores plus the masses picked out by the block-diagonal product. -/
theorem out0_9_eq (x0 : Vec Ideal S8x32x256 .bf16) (x1 x2 : Vec Ideal S8x4x256 .bf16) (x3 x4 : Vec Ideal S1536x4x256 .i8)
    (x5 x6 : Vec Ideal S8x1x768 .f32) (x7 : Vec Ideal S8x4x192 .f32) :
    out0_9 x0 x1 x2 x3 x4 x5 x6 x7 = View.canon [
      ⟨r0_32, k0_pay1 (massTable x0 x1 x2 x3 x4 x5 x6 x7)
        (k0_pay175 (iota .tc S768x192 32 [0] iota_S768x192_d0_w32) 4#32 k0_pay172 k0_pay173 k0_pay174) k0_pay176
        (k0_pay177 (massTable x0 x1 x2 x3 x4 x5 x6 x7)) (View.ld x7 r0_32)⟩] := rfl

end Cert.KernelIdeal.Attend

end
-- ==== Proof.Spec.lean ====
module

public import Idealize.ShloMosaic.Lib.Pointwise
public import Idealize.ShloMosaic.PureOps.Ideal

/-!
# The mathematics of the attention call, entry by entry

Attention of 32 batches, one new token each, over 192 kept rows and the new row, with 4 key/value heads of 8 query rows
each. Everything is stated over the extended reals, at one batch `b`, key/value head `n`, query row `g` of the head,
kept row `t` and feature `d`. The kernel's and the reference's results are both shown to be these functions.
-/

@[expose] public section

noncomputable section

namespace Cert.Attention

open Idealize.ShloMosaic

/-- The value of an eight-bit code: the integer it spells, read signed. -/
def code (b : BitVec 8) : EReal := ((b.toInt : ℝ) : EReal)

/-- The scale of the scores, the single-precision constant `1/16`. -/
def sixteenth : EReal := Ideal.ofBits .f32 0x3D800000#32

/-- The largest of the 192 kept scores and the new one. -/
def maxOf (s : Fin 192 → EReal) (sn : EReal) : EReal := max (Finset.univ.fold max ⊥ s) sn

/-- The extended reals with the maximum as their addition, so that what is said of sums holds of maxima. -/
def MaxE : Type := EReal

instance : Add MaxE := ⟨fun a b => max (α := EReal) a b⟩

instance : Zero MaxE := ⟨(⊥ : EReal)⟩

instance : AddCommMonoid MaxE where
  add_assoc := fun a b c => max_assoc (α := EReal) a b c
  zero_add := fun a => bot_sup_eq (α := EReal) a
  add_zero := fun a => sup_bot_eq (α := EReal) a
  add_comm := fun a b => max_comm (α := EReal) a b
  nsmul := nsmulRec

/-- A maximum over a finite type is a sum in `MaxE`. -/
theorem fold_max_eq_sum {n : ℕ} (f : Fin n → EReal) :
    Finset.univ.fold max ⊥ f = (∑ i : Fin n, (show MaxE from f i) : MaxE) := rfl

/-- The sum of two elements of `MaxE` is their maximum. -/
theorem maxE_add (a b : MaxE) : a + b = max (α := EReal) a b := rfl

/-- The maximum over the first `a` and the last `b` of `N = a + b` values. -/
theorem fold_max_two_halves {N : ℕ} (a b : ℕ) (hN : a + b = N) (f : Fin N → EReal) :
    Finset.univ.fold max ⊥ f = max (Finset.univ.fold max ⊥ fun k : Fin a => f ⟨k.val, by have := k.isLt; omega⟩)
      (Finset.univ.fold max ⊥ fun k : Fin b => f ⟨a + k.val, by have := k.isLt; omega⟩) :=
  Fin.sum_univ_two_halves (M := MaxE) a b hN f

/-- The single-precision word of minus infinity. -/
theorem ofBits_neg_inf : Ideal.ofBits .f32 0xFF800000#32 = ⊥ := by simp [Ideal.ofBits, Ideal.ieee]

/-- The softmax denominator over the 192 kept scores and the new one. -/
def denom (s : Fin 192 → EReal) (sn : EReal) : EReal :=
  (∑ t, Ideal.exp (s t - maxOf s sn)) + Ideal.exp (sn - maxOf s sn)

/-- The softmax weight of kept row `t`. -/
def prob (s : Fin 192 → EReal) (sn : EReal) (t : Fin 192) : EReal :=
  Ideal.div (Ideal.exp (s t - maxOf s sn)) (denom s sn)

/-- The softmax weight of the new row. -/
def newProb (s : Fin 192 → EReal) (sn : EReal) : EReal :=
  Ideal.div (Ideal.exp (sn - maxOf s sn)) (denom s sn)

/-- Query row `g` of key/value head `n` among the 32 query rows. -/
def row (n : Fin 4) (g : Fin 8) : Fin 32 := ⟨n.val * 8 + g.val, by omega⟩

section Arrays

variable (x : (⟨4, ![32, 1, 32, 256]⟩ : Shape).Idx → EReal) (kn vn : (⟨4, ![32, 1, 4, 256]⟩ : Shape).Idx → EReal)
  (kk kv : (⟨4, ![32, 192, 4, 256]⟩ : Shape).Idx → BitVec 8) (ks vs : (⟨3, ![32, 192, 4]⟩ : Shape).Idx → EReal)
  (old : (⟨3, ![32, 4, 192]⟩ : Shape).Idx → EReal)

/-- The scaled score of kept row `t`: the query row against the row's key codes, times the row's scale over 16. -/
def score (b : Fin 32) (n : Fin 4) (g : Fin 8) (t : Fin 192) : EReal :=
  (∑ d : Fin 256, x (ix4 b 0 (row n g) d) * code (kk (ix4 b t n d))) * (ks (ix3 b t n) * sixteenth)

/-- The scaled score of the new row. -/
def newScore (b : Fin 32) (n : Fin 4) (g : Fin 8) : EReal :=
  (∑ d : Fin 256, x (ix4 b 0 (row n g) d) * kn (ix4 b 0 n d)) * sixteenth

/-- The attention output: the kept rows' weights times their scales against the value codes, plus the new row's weight
    times the new value. -/
def out (b : Fin 32) (n : Fin 4) (g : Fin 8) (d : Fin 256) : EReal :=
  (∑ t : Fin 192, prob (score x kk ks b n g) (newScore x kn b n g) t * vs (ix3 b t n) * code (kv (ix4 b t n d)))
    + newProb (score x kk ks b n g) (newScore x kn b n g) * vn (ix4 b 0 n d)

/-- The updated score of kept row `t`: the old score plus the row's weight summed over the head's eight query rows. -/
def keptScore (b : Fin 32) (n : Fin 4) (t : Fin 192) : EReal :=
  old (ix3 b n t) + ∑ g : Fin 8, prob (score x kk ks b n g) (newScore x kn b n g) t

end Arrays

end Cert.Attention

end
-- ==== Proof.Classes.lean ====
module

public import proofs.«01_k».proof.Proof.Spec

/-!
# Sums and maxima over the lanes of one class

A row of 128 lanes, or of 768 columns, interleaves four classes: position `c` belongs to class `c % 4`. Adding the row to
itself rotated by 4, 8, 16, 32 and 64 lanes leaves at every lane the sum over its class.
-/

@[expose] public section

noncomputable section

namespace Cert.Attention

open Idealize.ShloMosaic

variable {M : Type} [AddCommMonoid M]

/-- Lane `l` of a row of 128, `k` lanes back, cyclically. -/
def back (l : Fin 128) (k : ℕ) : Fin 128 := ⟨(l.val + 128 * k - k) % 128, by omega⟩

/-- One rotate-and-add step doubles the number of lanes summed. -/
theorem double (f g : Fin 128 → M) (w : ℕ) (hg : ∀ l, g l = ∑ k ∈ Finset.range w, f (back l (4 * k))) (l : Fin 128) :
    g l + g (back l (4 * w)) = ∑ k ∈ Finset.range (w + w), f (back l (4 * k)) := by
  rw [Finset.sum_range_add, hg, hg]
  refine congrArg _ (Finset.sum_congr rfl fun k _ => congrArg f (Fin.ext ?_))
  simp only [back]
  omega

/-- The five rotate-and-add steps. -/
def fold5 (f : Fin 128 → M) : Fin 128 → M :=
  let g1 := fun l => f l + f (back l 4)
  let g2 := fun l => g1 l + g1 (back l 8)
  let g3 := fun l => g2 l + g2 (back l 16)
  let g4 := fun l => g3 l + g3 (back l 32)
  fun l => g4 l + g4 (back l 64)

/-- After the five steps a lane holds the sum over its class: over the 32 lanes `4 k + l % 4`. -/
theorem fold5_eq (f : Fin 128 → M) (l : Fin 128) :
    fold5 f l = ∑ k : Fin 32, f ⟨4 * k.val + l.val % 4, by omega⟩ := by
  have h0 : ∀ l, f l = ∑ k ∈ Finset.range 1, f (back l (4 * k)) := fun l => by
    rw [Finset.sum_range_one]; exact congrArg f (Fin.ext (by simp only [back]; omega))
  have h1 := double f f 1 h0
  have h2 := double f _ 2 h1
  have h3 := double f _ 4 h2
  have h4 := double f _ 8 h3
  have h5 := double f _ 16 h4
  refine (h5 l).trans ?_
  rw [Finset.sum_range]
  have hi : Function.Involutive fun k : Fin 32 => (⟨(l.val / 4 + 32 - k.val) % 32, by omega⟩ : Fin 32) := fun k =>
    Fin.ext (by have := l.isLt; have := k.isLt; simp only; omega)
  rw [← Equiv.sum_comp hi.toPerm]
  refine Finset.sum_congr rfl fun k _ => congrArg f (Fin.ext ?_)
  have hl := l.isLt
  have hk := k.isLt
  simp only [Function.Involutive.coe_toPerm, back]
  omega

/-- Six tiles of 128 columns, each summed over a class, are the 192 columns `4 t + n` of the class. -/
theorem sum_tiles (s : Fin 768 → M) (n : Fin 4) :
    (∑ k : Fin 32, (s ⟨4 * k.val + n.val, by omega⟩ + s ⟨128 + (4 * k.val + n.val), by omega⟩ + s ⟨256 + (4 * k.val + n.val), by omega⟩
        + s ⟨384 + (4 * k.val + n.val), by omega⟩ + s ⟨512 + (4 * k.val + n.val), by omega⟩ + s ⟨640 + (4 * k.val + n.val), by omega⟩))
      = ∑ t : Fin 192, s ⟨4 * t.val + n.val, by omega⟩ := by
  rw [Fin.sum_univ_tiles 6 32 rfl]
  simp only [Finset.sum_add_distrib, Fin.sum_univ_six]
  have e : ∀ a b : Fin 768, a.val = b.val → s a = s b := fun a b h => congrArg s (Fin.ext h)
  congr 1
  · congr 1
    · congr 1
      · congr 1
        · congr 1 <;> exact Finset.sum_congr rfl fun k _ => e _ _ (by simp only [Fin.val_zero, Fin.val_one]; omega)
        · exact Finset.sum_congr rfl fun k _ => e _ _ (by simp only [Fin.val_two]; omega)
      · exact Finset.sum_congr rfl fun k _ => e _ _ (by show _ = 4 * (3 * 32 + k.val) + n.val; simp only; omega)
    · exact Finset.sum_congr rfl fun k _ => e _ _ (by show _ = 4 * (4 * 32 + k.val) + n.val; simp only; omega)
  · exact Finset.sum_congr rfl fun k _ => e _ _ (by show _ = 4 * (5 * 32 + k.val) + n.val; simp only; omega)

/-- The maximum of a number of copies of one value is the value. -/
theorem maxE_sum_const (a : MaxE) : ∑ _k : Fin 32, a = a := by
  have h : ∀ b : MaxE, a + (a + b) = a + b := fun b => by rw [← add_assoc]; exact congrArg (· + b) (max_self (α := EReal) a)
  have h' : a + a = a := max_self (α := EReal) a
  simp only [Fin.sum_const, succ_nsmul, zero_nsmul, zero_add, h, h']

/-- Seven terms added with the first moved last. -/
theorem maxE_rotate (w a b c d e f : MaxE) : w + a + b + c + d + e + f = a + b + c + d + e + f + w := by abel

/-- The running maximum at a lane: over the new row's lane and the six tiles of the kept rows' columns. -/
def tileMax (s : Fin 768 → EReal) (sn : Fin 128 → EReal) (l : Fin 128) : MaxE :=
  max (α := EReal) (max (max (max (max (max (sn l) (s ⟨l.val, by omega⟩)) (s ⟨128 + l.val, by omega⟩))
    (s ⟨256 + l.val, by omega⟩)) (s ⟨384 + l.val, by omega⟩)) (s ⟨512 + l.val, by omega⟩)) (s ⟨640 + l.val, by omega⟩)

/-- The running maximum folded over a class, with the maximum written as the addition of `MaxE`. -/
theorem fold5_maxE (s : Fin 768 → MaxE) (sn : Fin 128 → MaxE) (v : Fin 4 → MaxE)
    (hsn : ∀ l : Fin 128, sn l = v ⟨l.val % 4, by omega⟩) (l : Fin 128) :
    fold5 (fun l => sn l + s ⟨l.val, by omega⟩ + s ⟨128 + l.val, by omega⟩ + s ⟨256 + l.val, by omega⟩
        + s ⟨384 + l.val, by omega⟩ + s ⟨512 + l.val, by omega⟩ + s ⟨640 + l.val, by omega⟩) l
      = (∑ t : Fin 192, s ⟨4 * t.val + l.val % 4, by omega⟩) + v ⟨l.val % 4, by omega⟩ := by
  rw [fold5_eq]
  have h := sum_tiles s ⟨l.val % 4, by omega⟩
  have hv := maxE_sum_const (v ⟨l.val % 4, by omega⟩)
  refine Eq.trans ?_ (congrArg₂ (· + ·) h hv)
  rw [← Finset.sum_add_distrib]
  refine Finset.sum_congr rfl fun k _ => ?_
  have e : sn ⟨4 * k.val + l.val % 4, by omega⟩ = v ⟨l.val % 4, by omega⟩ := by
    rw [hsn]; exact congrArg v (Fin.ext (by simp only; omega))
  rw [e]
  exact maxE_rotate _ _ _ _ _ _ _

/-- The running maximum folded over a class is the largest of the class's scores, the new row's among them. -/
theorem fold5_max (s : Fin 768 → EReal) (sn : Fin 128 → EReal) (v : Fin 4 → EReal)
    (hsn : ∀ l : Fin 128, sn l = v ⟨l.val % 4, by omega⟩) (l : Fin 128) :
    fold5 (M := MaxE) (tileMax s sn) l
      = maxOf (fun t => s ⟨4 * t.val + l.val % 4, by omega⟩) (v ⟨l.val % 4, by omega⟩) :=
  fold5_maxE s sn v hsn l

end Cert.Attention

end
-- ==== Proof.Block.lean ====
module

public import proofs.«01_k».proof.Proof.Pieces
public import proofs.«01_k».proof.Proof.Classes
public import Idealize.ShloMosaic.Lib.Pipeline.Value

/-!
# One batch of the body of `attend` at an index

The scores, the softmax weights, the masses and the output of one batch, each read at an index.
-/

@[expose] public section

set_option maxRecDepth 16384

noncomputable section

namespace Cert.KernelIdeal.Attend

open Cert.KernelIdeal Cert.KernelIdeal.Gen Idealize.ShloMosaic Cert.Attention

/-- Column `t` of class `n` among the 768. -/
def col (t : Fin 192) (n : Fin 4) : Fin 768 := ⟨4 * t.val + n.val, by omega⟩

/-- Lane `n`, where the new row's weights of head `n` are read. -/
def lane (n : Fin 4) : Fin 128 := ⟨n.val, by omega⟩

/-- The class of a column is its residue modulo four. -/
theorem class_apply (g : Fin 8) (c : Fin 768) : k0_pay2 (ix2 g c) = BitVec.ofNat 32 (c.val % 4) := by
  pointwise [k0_pay2]
  revert c
  decide +kernel

/-- Choosing among four values by a residue modulo four. -/
theorem select_class {α : Type} (c : ℕ) (f : Fin 4 → α) :
    Scalar.select (IntOp.cmpi .eq (BitVec.ofNat 32 (c % 4)) 3#32) (f 3)
      (Scalar.select (IntOp.cmpi .eq (BitVec.ofNat 32 (c % 4)) 2#32) (f 2)
        (Scalar.select (IntOp.cmpi .eq (BitVec.ofNat 32 (c % 4)) 1#32) (f 1) (f 0))) = f ⟨c % 4, by omega⟩ := by
  have h : c % 4 = 0 ∨ c % 4 = 1 ∨ c % 4 = 2 ∨ c % 4 = 3 := by omega
  rcases h with h | h | h | h <;> simp only [h] <;> rfl

/-- The rows of the 32 query rows that a group's slices read. -/
theorem rows_eq (g : Fin 8) : (∀ h, (⟨g.val, h⟩ : Fin 32) = row 0 g) ∧ (∀ h, (⟨8 + g.val, h⟩ : Fin 32) = row 1 g)
    ∧ (∀ h, (⟨16 + g.val, h⟩ : Fin 32) = row 2 g) ∧ (∀ h, (⟨24 + g.val, h⟩ : Fin 32) = row 3 g) :=
  ⟨fun _ => Fin.ext (by simp [row]), fun _ => Fin.ext (by simp [row]), fun _ => Fin.ext (by simp [row]),
    fun _ => Fin.ext (by simp [row])⟩

section Slices

variable (q : Vec Ideal S1x32x256 .bf16) (kk kv : Vec Ideal S192x4x256 .i8) (kn vn : Vec Ideal S1x4x256 .bf16)
  (ks vs : Vec Ideal S1x1x768 .f32)

/-- The score of kept row `t` for query row `g` of head `n`, from one batch's slices. -/
def sliceScore (n : Fin 4) (g : Fin 8) (t : Fin 192) : EReal :=
  (∑ d : Fin 256, q (ix3 0 (row n g) d) * code (kk (ix3 t n d))) * (ks (ix3 0 0 (col t n)) * sixteenth)

/-- The score of the new row for query row `g` of head `n`, from one batch's slices. -/
def sliceNew (n : Fin 4) (g : Fin 8) : EReal :=
  (∑ d : Fin 256, q (ix3 0 (row n g) d) * kn (ix3 0 n d)) * sixteenth

/-- The scores at a query row and a column. -/
theorem scores_apply (g : Fin 8) (c : Fin 768) :
    scores q kk ks (ix2 g c) = sliceScore q kk ks ⟨c.val % 4, by omega⟩ g ⟨c.val / 4, by omega⟩ := by
  have hc : col ⟨c.val / 4, by omega⟩ ⟨c.val % 4, by omega⟩ = c := Fin.ext (by simp only [col]; omega)
  pointwise [scores, k0_pay10, k0_pay4, k0_pay5, class_apply]
  unfold sliceScore
  obtain ⟨h0, h1, h2, h3⟩ := rows_eq g
  simp only [hc, h0, h1, h2, h3]
  exact congrArg (· * _) (select_class c.val fun n => ∑ d : Fin 256, q (ix3 0 (row n g) d) * code (kk (ix3 ⟨c.val / 4, by omega⟩ ⟨c.val % 4, by omega⟩ d)))

/-- The tiled new keys: row `l` is the key of head `l % 4`. -/
theorem tiled_key (l : Fin 128) (d : Fin 256) : k0_pay7 kn (ix2 l d) = kn (ix3 0 ⟨l.val % 4, by omega⟩ d) := by
  refine (concatenate_replicate_apply (t := S128x256) (s₁ := S4x256) 0 32 _ concatenates_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S128x256_d0 rfl (ix2 l d) (ix2 ⟨l.val % 4, by omega⟩ d) rfl ?_).trans ?_
  · intro b hb
    match b, hb with
    | 0, hb => exact absurd rfl hb
    | 1, _ => rfl
  · pointwise

/-- The tiled new values: row `l` is the value of head `l % 4`. -/
theorem tiled_value (l : Fin 128) (d : Fin 256) : k0_pay9 (k0_pay8 vn) (ix2 l d) = vn (ix3 0 ⟨l.val % 4, by omega⟩ d) := by
  refine (concatenate_replicate_apply (t := S128x256) (s₁ := S4x256) 0 32 _ concatenates_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S128x256_d0 rfl (ix2 l d) (ix2 ⟨l.val % 4, by omega⟩ d) rfl ?_).trans ?_
  · intro b hb
    match b, hb with
    | 0, hb => exact absurd rfl hb
    | 1, _ => rfl
  · pointwise

/-- The new row's scores at a query row and a lane. -/
theorem newScores_apply (g : Fin 8) (l : Fin 128) :
    newScores q kn (ix2 g l) = sliceNew q kn ⟨l.val % 4, by omega⟩ g := by
  pointwise [newScores, k0_pay11, k0_pay4, k0_pay3, class_apply, tiled_key]
  unfold sliceNew
  obtain ⟨h0, h1, h2, h3⟩ := rows_eq g
  simp only [h0, h1, h2, h3]
  exact congrArg (· * _) (select_class l.val fun n => ∑ d : Fin 256, q (ix3 0 (row n g) d) * kn (ix3 0 ⟨l.val % 4, by omega⟩ d))

end Slices

section Rotations

variable {M : Type} [AddCommMonoid M]

/-- A row rotated by `k` lanes at a lane. -/
theorem rotate_apply {α : Type} (k : BitVec 32) (hk : k.toNat < 128) (v : S8x128.Idx → α) (g : Fin 8) (l : Fin 128) :
    dynamicRotate 1 k none v rotates_S8x128_d1 (ix2 g l) = v (ix2 g (back l k.toNat)) := by
  refine congrArg v (funext fun b => ?_)
  match b with
  | 0 => rfl
  | 1 =>
    refine Fin.ext ?_
    show (l.val + 128 - (k.toNat + 0) % 128) % 128 = (l.val + 128 * k.toNat - k.toNat) % 128
    omega

/-- Five rotate-and-add steps at a query row and a lane, whatever operation the step spells its addition with. -/
theorem five_steps (step : BitVec 32 → (S8x128.Idx → M) → S8x128.Idx → M)
    (hstep : ∀ k v i, step k v i = v i + dynamicRotate 1 k none v rotates_S8x128_d1 i) (v : S8x128.Idx → M) (g : Fin 8) (l : Fin 128) :
    step 64#32 (step 32#32 (step 16#32 (step 8#32 (step 4#32 v)))) (ix2 g l) = fold5 (fun l => v (ix2 g l)) l := by
  have r : ∀ (k : BitVec 32) (_ : k.toNat < 128) (v : S8x128.Idx → M) (l : Fin 128),
      step k v (ix2 g l) = v (ix2 g l) + v (ix2 g (back l k.toNat)) := fun k hk v l => by
    rw [hstep, rotate_apply k hk]
  simp only [r 64#32 (by decide), r 32#32 (by decide), r 16#32 (by decide), r 8#32 (by decide), r 4#32 (by decide)]
  rfl

end Rotations

section Softmax

variable (s : FVec Ideal S8x768 .f32) (sn pm : FVec Ideal S8x128 .f32)

/-- A row of 128 lanes tiled six times: column `c` reads lane `c % 128`. -/
theorem tile_six (v : FVec Ideal S8x128 .f32) (g : Fin 8) (c : Fin 768) :
    concatenate S8x768 1 [⟨S8x128, v⟩, ⟨S8x128, v⟩, ⟨S8x128, v⟩, ⟨S8x128, v⟩, ⟨S8x128, v⟩, ⟨S8x128, v⟩]
      concatenates_S8x128_S8x128_S8x128_S8x128_S8x128_S8x128_S8x768_d1 (ix2 g c) = v (ix2 g ⟨c.val % 128, by omega⟩) := by
  refine concatenate_replicate_apply (t := S8x768) (s₁ := S8x128) 1 6 _
    concatenates_S8x128_S8x128_S8x128_S8x128_S8x128_S8x128_S8x768_d1 rfl (ix2 g c) (ix2 g ⟨c.val % 128, by omega⟩) rfl ?_
  intro b hb
  match b, hb with
  | 0, _ => rfl
  | 1, hb => exact absurd rfl hb

/-- One rotate-and-maximum step of the body. -/
def rollMax (k : BitVec 32) (v : FVec Ideal S8x128 .f32) : FVec Ideal S8x128 .f32 :=
  maximumf v (dynamicRotate 1 k none v rotates_S8x128_d1)

/-- One rotate-and-add step of the body. -/
def rollAdd (k : BitVec 32) (v : FVec Ideal S8x128 .f32) : FVec Ideal S8x128 .f32 :=
  addf v (dynamicRotate 1 k none v rotates_S8x128_d1)

/-- A rotate-and-maximum step adds in the order whose sum is the maximum. -/
theorem rollMax_step (k : BitVec 32) (v : S8x128.Idx → MaxE) (i : S8x128.Idx) :
    (rollMax k v : S8x128.Idx → MaxE) i = v i + dynamicRotate 1 k none v rotates_S8x128_d1 i := rfl

/-- Five rotate-and-maximum steps at a query row and a lane. -/
theorem rollMax_five (v : FVec Ideal S8x128 .f32) (g : Fin 8) (l : Fin 128) :
    rollMax 64#32 (rollMax 32#32 (rollMax 16#32 (rollMax 8#32 (rollMax 4#32 v)))) (ix2 g l)
      = fold5 (M := MaxE) (fun l => v (ix2 g l)) l :=
  five_steps (M := MaxE) rollMax rollMax_step v g l

/-- The maximum each lane ends with. -/
theorem max_apply (g : Fin 8) (l : Fin 128) :
    k0_pay13 s (partialMax s sn) (ix2 g l) = fold5 (M := MaxE) (tileMax (fun c => s (ix2 g c)) (fun l => sn (ix2 g l))) l := by
  have e : k0_pay13 s (partialMax s sn) = rollMax 64#32 (rollMax 32#32 (rollMax 16#32 (rollMax 8#32 (rollMax 4#32
    (maximumf (partialMax s sn) (extractStridedSlice S8x128 ![0, 640] s slices_S8x768_o0_640_S8x128)))))) := rfl
  refine (congrFun e (ix2 g l)).trans ((rollMax_five _ g l).trans ?_)
  refine congrArg (fun f => fold5 (M := MaxE) f l) (funext fun l => ?_)
  pointwise [partialMax, tileMax]

/-- The exponentials at a query row and a column. -/
theorem exps_apply (g : Fin 8) (c : Fin 768) :
    k0_pay14 s pm (ix2 g c) = Ideal.exp (s (ix2 g c) - k0_pay13 s pm (ix2 g ⟨c.val % 128, by omega⟩)) :=
  congrArg (fun z => Ideal.exp (s (ix2 g c) - z)) (tile_six _ g c)

/-- The new row's exponentials at a query row and a lane. -/
theorem new_exps_apply (g : Fin 8) (l : Fin 128) :
    k0_pay15 s sn pm (ix2 g l) = Ideal.exp (sn (ix2 g l) - k0_pay13 s pm (ix2 g l)) := rfl

/-- The denominators at a query row and a lane. -/
theorem denom_apply (g : Fin 8) (l : Fin 128) :
    k0_pay16 s sn pm (ix2 g l) = (∑ t : Fin 192, k0_pay14 s pm (ix2 g ⟨4 * t.val + l.val % 4, by omega⟩)) + k0_pay15 s sn pm (ix2 g l) := by
  refine congrArg (· + k0_pay15 s sn pm (ix2 g l)) ((five_steps (M := EReal) rollAdd (fun _ _ _ => rfl) _ g l).trans ?_)
  rw [fold5_eq, ← sum_tiles (fun c => k0_pay14 s pm (ix2 g c)) ⟨l.val % 4, by omega⟩]
  refine Finset.sum_congr rfl fun k _ => ?_
  pointwise

variable (v : Fin 4 → EReal) (g : Fin 8) (hsn : ∀ l : Fin 128, sn (ix2 g l) = v ⟨l.val % 4, by omega⟩)
include hsn

/-- The maximum at a lane is the largest score of its class. -/
theorem max_class (l : Fin 128) :
    k0_pay13 s (partialMax s sn) (ix2 g l) = maxOf (fun t => s (ix2 g (col t ⟨l.val % 4, by omega⟩))) (v ⟨l.val % 4, by omega⟩) :=
  (max_apply s sn g l).trans (fold5_max (fun c => s (ix2 g c)) (fun l => sn (ix2 g l)) v hsn l)

/-- The exponential of kept row `t` of class `n`. -/
theorem exps_class (n : Fin 4) (t : Fin 192) :
    k0_pay14 s (partialMax s sn) (ix2 g (col t n))
      = Ideal.exp (s (ix2 g (col t n)) - maxOf (fun t => s (ix2 g (col t n))) (v n)) := by
  have h : ∀ h, (⟨(col t n).val % 128 % 4, h⟩ : Fin 4) = n := fun _ => Fin.ext (by simp only [col]; omega)
  rw [exps_apply, max_class s sn v g hsn]
  simp only [h]

/-- The denominator at a lane of class `n`. -/
theorem denom_class (n : Fin 4) (l : Fin 128) (hl : l.val % 4 = n.val) :
    k0_pay16 s sn (partialMax s sn) (ix2 g l) = denom (fun t => s (ix2 g (col t n))) (v n) := by
  have h : ∀ h, (⟨l.val % 4, h⟩ : Fin 4) = n := fun _ => Fin.ext hl
  have hc : ∀ (t : Fin 192) h, (⟨4 * t.val + l.val % 4, h⟩ : Fin 768) = col t n := fun _ _ => Fin.ext (by simp only [col]; omega)
  rw [denom_apply, new_exps_apply, max_class s sn v g hsn, hsn]
  simp only [h, hc, exps_class s sn v g hsn, denom]

/-- The softmax weight of kept row `t` in class `n`, given that the new row's scores depend on the class alone. -/
theorem probs_apply (n : Fin 4) (t : Fin 192) :
    probs s sn (ix2 g (col t n)) = prob (fun t => s (ix2 g (col t n))) (v n) t := by
  refine (congrArg (Ideal.div _) (tile_six (k0_pay16 s sn (partialMax s sn)) g (col t n))).trans ?_
  rw [exps_class s sn v g hsn, denom_class s sn v g hsn n _ (by simp only [col]; omega)]
  rfl

/-- The softmax weight of the new row at lane `n`. -/
theorem newProbs_apply (n : Fin 4) :
    newProbs s sn (ix2 g (lane n)) = newProb (fun t => s (ix2 g (col t n))) (v n) := by
  have h : ∀ h, (⟨(lane n).val % 4, h⟩ : Fin 4) = n := fun _ => Fin.ext (by simp only [lane]; omega)
  refine (congrArg₂ Ideal.div (new_exps_apply s sn (partialMax s sn) g (lane n))
    (denom_class s sn v g hsn n (lane n) (by simp only [lane]; omega))).trans ?_
  rw [max_class s sn v g hsn, hsn]
  simp only [h]
  rfl

end Softmax

section Output

variable (p : FVec Ideal S8x768 .f32) (pn : FVec Ideal S8x128 .f32) (kv : Vec Ideal S192x4x256 .i8)
    (vn : Vec Ideal S1x4x256 .bf16) (vs : Vec Ideal S1x1x768 .f32)

/-- A choice by comparing two small numbers as 32-bit words. -/
theorem select_eq {α : Type} (a b : ℕ) (ha : a < 4294967296) (hb : b < 4294967296) (u v : α) :
    Scalar.select (IntOp.cmpi .eq (BitVec.ofNat 32 a) (BitVec.ofNat 32 b)) u v = if a = b then u else v := by
  by_cases h : a = b
  · subst h; simp [Scalar.select, IntOp.cmpi]
  · have : BitVec.ofNat 32 a ≠ BitVec.ofNat 32 b := fun e => h (by
      have := congrArg BitVec.toNat e; simp only [BitVec.toNat_ofNat] at this; omega)
    rw [if_neg h]; show Scalar.select (BitVec.ofBool (BitVec.ofNat 32 a == BitVec.ofNat 32 b)) u v = v
    rw [beq_eq_false_iff_ne.mpr this]; rfl

/-- Four stacked groups of eight rows, read at row `n * 8 + g`. -/
theorem ladder {α : Type} (n : Fin 4) (g : Fin 8) (f : Fin 4 → Fin 8 → α)
    (f0 f1 f2 f3 : Fin 8 → α) (h0 : f0 = f 0) (h1 : f1 = f 1) (h2 : f2 = f 2) (h3 : f3 = f 3) :
    (if h : (row n g).val < 8 then f0 ⟨(row n g).val, h⟩ else
      if h : (row n g).val - 8 < 8 then f1 ⟨(row n g).val - 8, h⟩ else
      if h : (row n g).val - 8 - 8 < 8 then f2 ⟨(row n g).val - 8 - 8, h⟩ else
      f3 ⟨(row n g).val - 8 - 8 - 8, by have := (row n g).isLt; omega⟩) = f n g := by
  have hg := g.isLt
  subst h0 h1 h2 h3
  have e : ∀ (m : Fin 4) (k : ℕ) (h : k < 8), m = n → k = g.val → f m ⟨k, h⟩ = f n g := by
    intro m k h hm hk; subst hm; exact congrArg (f m) (Fin.ext hk)
  have hr : (row n g).val = n.val * 8 + g.val := rfl
  have hn : n.val = 0 ∨ n.val = 1 ∨ n.val = 2 ∨ n.val = 3 := by omega
  rcases hn with hn | hn | hn | hn
  · rw [dif_pos (by omega)]; exact e _ _ _ (Fin.ext hn.symm) (by omega)
  · rw [dif_neg (by omega), dif_pos (by omega)]; exact e _ _ _ (Fin.ext hn.symm) (by omega)
  · rw [dif_neg (by omega), dif_neg (by omega), dif_pos (by omega)]; exact e _ _ _ (Fin.ext hn.symm) (by omega)
  · rw [dif_neg (by omega), dif_neg (by omega), dif_neg (by omega)]; exact e _ _ _ (Fin.ext hn.symm) (by omega)

/-- A sum over the 768 columns of which only class `n` counts. -/
theorem sum_class (n : Fin 4) (f : Fin 768 → EReal) (w : Fin 768 → EReal) :
    ∑ x : Fin 768, (if x.val % 4 = n.val then f x else 0) * w x = ∑ t : Fin 192, f (col t n) * w (col t n) := by
  rw [Fin.sum_univ_tiles 192 4 rfl]
  refine Finset.sum_congr rfl fun t _ => ?_
  have hc : ∀ h, (⟨t.val * 4 + n.val, h⟩ : Fin 768) = col t n := fun _ => Fin.ext (by simp only [col]; omega)
  rw [Finset.sum_eq_single n, if_pos (by simp only; omega), hc]
  · intro m _ hm
    rw [if_neg (by simp only; intro h; exact hm (Fin.ext (by omega))), zero_mul]
  · intro h; exact absurd (Finset.mem_univ n) h

/-- A sum over the 128 lanes of which only lane `n` counts. -/
theorem sum_lane (n : Fin 4) (f w : Fin 128 → EReal) :
    ∑ x : Fin 128, (if x.val = n.val then f x else 0) * w x = f (lane n) * w (lane n) := by
  rw [Finset.sum_eq_single (lane n), if_pos (show (lane n).val = n.val from rfl)]
  · intro m _ hm
    rw [if_neg (show ¬ m.val = n.val from fun h => hm (Fin.ext h)), zero_mul]
  · intro h; exact absurd (Finset.mem_univ _) h

/-- The attention output of one batch at an index, from the weights. -/
theorem outOf_apply (n : Fin 4) (g : Fin 8) (d : Fin 256) : outOf p pn kv vn vs (ix3 0 (row n g) d) =
    (∑ t : Fin 192, p (ix2 g (col t n)) * vs (ix3 0 0 (col t n)) * code (kv (ix3 t n d)))
      + pn (ix2 g (lane n)) * vn (ix3 0 n d) := by
  pointwise [outOf, k0_pay21, k0_pay22, k0_pay20, k0_pay6, tiled_value, class_apply]
  refine congrArg₂ (· + ·) ?_ ?_
  · refine Eq.trans (Finset.sum_congr rfl fun x _ => ?_) ((sum_class n (fun x => p (ix2 g x) * vs (ix3 0 0 x))
      fun x => code (kv (ix3 ⟨x.val / 4, by omega⟩ ⟨x.val % 4, by omega⟩ d))).trans ?_)
    · refine congrArg₂ (· * ·) ((ladder n g (fun n g => Scalar.select
        (IntOp.cmpi CmpIPredicate.eq (BitVec.ofNat 32 (x.val % 4)) (BitVec.ofNat 32 n.val)) (p (ix2 g x) * vs (ix3 0 0 x)) 0)
        (fun g => Scalar.select (IntOp.cmpi CmpIPredicate.eq (BitVec.ofNat 32 (x.val % 4)) 0#32) (p (ix2 g x) * vs (ix3 0 0 x)) 0)
        (fun g => Scalar.select (IntOp.cmpi CmpIPredicate.eq (BitVec.ofNat 32 (x.val % 4)) 1#32) (p (ix2 g x) * vs (ix3 0 0 x)) 0)
        (fun g => Scalar.select (IntOp.cmpi CmpIPredicate.eq (BitVec.ofNat 32 (x.val % 4)) 2#32) (p (ix2 g x) * vs (ix3 0 0 x)) 0)
        (fun g => Scalar.select (IntOp.cmpi CmpIPredicate.eq (BitVec.ofNat 32 (x.val % 4)) 3#32) (p (ix2 g x) * vs (ix3 0 0 x)) 0)
        rfl rfl rfl rfl).trans ?_) rfl
      exact select_eq _ _ (by omega) (by omega) _ _
    · refine Finset.sum_congr rfl fun t _ => ?_
      have h1 : ∀ h, (⟨(col t n).val / 4, h⟩ : Fin 192) = t := fun _ => Fin.ext (by simp only [col]; omega)
      have h2 : ∀ h, (⟨(col t n).val % 4, h⟩ : Fin 4) = n := fun _ => Fin.ext (by simp only [col]; omega)
      simp only [h1, h2]
  · refine Eq.trans (Finset.sum_congr rfl fun x _ => ?_) ((sum_lane n (fun x => pn (ix2 g x))
      fun x => vn (ix3 0 ⟨x.val % 4, by omega⟩ d)).trans ?_)
    · refine congrArg₂ (· * ·) ((ladder n g (fun n g => Scalar.select
        (IntOp.cmpi CmpIPredicate.eq (BitVec.ofNat 32 x.val) (BitVec.ofNat 32 n.val)) (pn (ix2 g x)) 0)
        (fun g => Scalar.select (IntOp.cmpi CmpIPredicate.eq (BitVec.ofNat 32 x.val) 0#32) (pn (ix2 g x)) 0)
        (fun g => Scalar.select (IntOp.cmpi CmpIPredicate.eq (BitVec.ofNat 32 x.val) 1#32) (pn (ix2 g x)) 0)
        (fun g => Scalar.select (IntOp.cmpi CmpIPredicate.eq (BitVec.ofNat 32 x.val) 2#32) (pn (ix2 g x)) 0)
        (fun g => Scalar.select (IntOp.cmpi CmpIPredicate.eq (BitVec.ofNat 32 x.val) 3#32) (pn (ix2 g x)) 0)
        rfl rfl rfl rfl).trans ?_) rfl
      exact select_eq _ _ (by omega) (by omega) _ _
    · have h2 : ∀ h, (⟨(lane n).val % 4, h⟩ : Fin 4) = n := fun _ => Fin.ext (by simp only [lane]; omega)
      simp only [h2]

end Output

end Cert.KernelIdeal.Attend

end
-- ==== Proof.Masses.lean ====
module

public import proofs.«01_k».proof.Proof.Block

/-!
# The masses: weights summed over a head's query rows, and the scores they update
-/

@[expose] public section

set_option maxRecDepth 16384

noncomputable section

namespace Cert.KernelIdeal.Attend

open Cert.KernelIdeal Cert.KernelIdeal.Gen Idealize.ShloMosaic Cert.Attention

/-- Row `b * 4 + n` of the table of masses. -/
def tableRow (b : Fin 8) (n : Fin 4) : Fin 32 := ⟨b.val * 4 + n.val, by omega⟩

variable (m0 m1 m2 m3 m4 m5 m6 m7 : FVec Ideal S1x768 .f32)

/-- Eight stacked rows, read at row `b * 4 + n` of their four copies each. -/
theorem stacked_apply (b : Fin 8) (n : Fin 4) (c : Fin 768) :
    k0_pay170 m0 m1 m2 m3 m4 m5 m6 m7 (ix2 (tableRow b n) c) = ![m0, m1, m2, m3, m4, m5, m6, m7] b (ix2 0 c) := by
  have hr : (tableRow b n).val / 4 = b.val := by simp only [tableRow]; omega
  pointwise [k0_pay170]
  simp only [hr]
  match b with
  | 0 => rfl
  | 1 => rfl
  | 2 => rfl
  | 3 => rfl
  | 4 => rfl
  | 5 => rfl
  | 6 => rfl
  | 7 => rfl

/-- The body's spelling of a residue modulo four. -/
def residue (x : BitVec 32) : BitVec 32 :=
  let k := Scalar.select (Scalar.cmpi .eq 4#32 0#32) 1#32 4#32
  Scalar.select
    (IntOp.andi (IntOp.xori (IntOp.cmpi .slt (IntOp.remsi .vector x k) 0#32) (Scalar.cmpi .slt k 0#32))
      (IntOp.cmpi .ne (IntOp.remsi .vector x k) 0#32))
    (IntOp.addi (IntOp.remsi .vector x k) k) (IntOp.remsi .vector x k)

/-- The body's spelling of a quotient by four. -/
def quotient (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 4#32 0#32)) (Scalar.extui (Scalar.cmpi .slt 4#32 0#32))))
      (IntOp.cmpi .ne (IntOp.remsi .vector x 4#32) 0#32))
    (IntOp.subi (IntOp.divsi .vector x 4#32) 1#32) (IntOp.divsi .vector x 4#32)

/-- The residue of a column. -/
theorem residue_eq : ∀ c : Fin 768, residue (BitVec.ofNat 32 c.val) = BitVec.ofNat 32 (c.val % 4) := by decide +kernel

/-- The quotient of a column. -/
theorem quotient_eq : ∀ c : Fin 768, quotient (BitVec.ofNat 32 c.val) = BitVec.ofNat 32 (c.val / 4) := by decide +kernel

/-- The table of masses, masked to each row's own class of columns. -/
theorem masked_apply (v : FVec Ideal S32x768 .f32) (b : Fin 8) (n : Fin 4) (c : Fin 768) :
    k0_pay171 v (iota .tc S32x768 32 [1] iota_S32x768_d1_w32) (ix2 (tableRow b n) c)
      = if c.val % 4 = n.val then v (ix2 (tableRow b n) c) else 0 := by
  pointwise [k0_pay171]
  show Scalar.select (IntOp.cmpi .eq (residue (BitVec.ofNat 32 c.val)) (residue (BitVec.ofNat 32 (tableRow b n).val))) _ _ = _
  have hr : residue (BitVec.ofNat 32 (tableRow b n).val) = BitVec.ofNat 32 n.val :=
    (residue_eq ⟨(tableRow b n).val, by omega⟩).trans (congrArg (BitVec.ofNat 32) (by simp only [tableRow]; omega))
  rw [residue_eq, hr]
  exact select_eq _ _ (by omega) (by omega) _ _

/-- The matrix that picks kept row `t` from the columns: one at the columns of row `t`, zero elsewhere. -/
def pick : FVec Ideal S768x192 .bf16 :=
  k0_pay175 (iota .tc S768x192 32 [0] iota_S768x192_d0_w32) 4#32 k0_pay172 k0_pay173 k0_pay174

theorem pick_apply (c : Fin 768) (t : Fin 192) : pick (ix2 c t) = if c.val / 4 = t.val then 1 else 0 := by
  unfold pick
  pointwise [k0_pay175, k0_pay172, k0_pay173, k0_pay174]
  show FloatOps.sitofp (F := Ideal) FTy.f32 (BitVec.setWidth 32 (IntOp.cmpi .eq (quotient (BitVec.ofNat 32 c.val)) (BitVec.ofNat 32 t.val))) = _
  rw [quotient_eq]
  have hs : ∀ w : BitVec 1, FloatOps.sitofp (F := Ideal) FTy.f32 (BitVec.setWidth 32 w) = Scalar.select w 1 0 := by
    intro w
    have hw : w = 0#1 ∨ w = 1#1 := by revert w; decide
    rcases hw with hw | hw <;> subst hw
    · show ((((0 : ℤ) : ℝ)) : EReal) = 0; simp
    · show ((((1 : ℤ) : ℝ)) : EReal) = 1; simp
  exact (hs _).trans (select_eq _ _ (by omega) (by omega) _ _)

/-- Columns of class `n` against the picking matrix: the column of kept row `t` is left. -/
theorem sum_pick (n : Fin 4) (t : Fin 192) (f : Fin 768 → EReal) :
    ∑ x : Fin 768, (if x.val % 4 = n.val then f x else 0) * pick (ix2 x t) = f (col t n) := by
  refine (sum_class n f fun x => pick (ix2 x t)).trans ?_
  have hq : ∀ u : Fin 192, (col u n).val / 4 = u.val := fun u => by simp only [col]; omega
  rw [Finset.sum_eq_single t]
  · rw [pick_apply, hq, if_pos rfl, mul_one]
  · intro u _ hu
    rw [pick_apply, hq, if_neg (show ¬ u.val = t.val from fun h => hu (Fin.ext h)), mul_zero]
  · intro h; exact absurd (Finset.mem_univ t) h

/-- A mass cut into three parts, each what the parts before it leave, adds up to the mass — unless the mass is plus infinity. -/
theorem three_parts (v : EReal) (hv : v ≠ ⊤) : v + (v - v) + (v - v - (v - v)) = v := by
  induction v using EReal.rec with
  | bot => rfl
  | top => exact absurd rfl hv
  | coe r => norm_cast; simp

/-- The updated scores at an index: the old score plus the mass of the kept row's column, unless that is plus infinity. -/
theorem total_apply (v : FVec Ideal S32x768 .f32) (old : Vec Ideal S8x4x192 .f32) (b : Fin 8) (n : Fin 4) (t : Fin 192)
    (hv : v (ix2 (tableRow b n) (col t n)) ≠ ⊤) :
    k0_pay1 (k0_pay171 v (iota .tc S32x768 32 [1] iota_S32x768_d1_w32)) pick k0_pay176
      (k0_pay177 (k0_pay171 v (iota .tc S32x768 32 [1] iota_S32x768_d1_w32))) old (ix3 b n t)
      = old (ix3 b n t) + v (ix2 (tableRow b n) (col t n)) := by
  generalize hm : k0_pay171 v (iota .tc S32x768 32 [1] iota_S32x768_d1_w32) = m
  have hmx : ∀ (x : Fin 768) h, m (ix2 ⟨b.val * 4 + n.val, h⟩ x) = if x.val % 4 = n.val then v (ix2 (tableRow b n) x) else 0 :=
    fun x _ => by rw [← hm]; exact masked_apply v b n x
  pointwise [k0_pay1, k0_pay176, k0_pay177]
  simp only [hmx]
  refine congrArg (old (ix3 b n t) + ·) (Eq.trans ?_ (three_parts _ hv))
  have h0 : (0 : EReal) - 0 = 0 := sub_zero 0
  refine congrArg₂ (· + ·) (congrArg₂ (· + ·) (sum_pick n t fun x => v (ix2 (tableRow b n) x)) ?_) ?_
  · refine Eq.trans (Finset.sum_congr rfl fun x _ => congrArg (· * _) ?_)
      (sum_pick n t fun x => v (ix2 (tableRow b n) x) - v (ix2 (tableRow b n) x))
    by_cases h : x.val % 4 = n.val
    · simp only [if_pos h]
    · simp only [if_neg h, h0]
  · refine Eq.trans (Finset.sum_congr rfl fun x _ => congrArg (· * _) ?_)
      (sum_pick n t fun x => v (ix2 (tableRow b n) x) - v (ix2 (tableRow b n) x) - (v (ix2 (tableRow b n) x) - v (ix2 (tableRow b n) x)))
    by_cases h : x.val % 4 = n.val
    · simp only [if_pos h]
    · simp only [if_neg h, h0]

/-- An exponential is not negative. -/
theorem exp_nonneg (x : EReal) : 0 ≤ Ideal.exp x := by
  induction x using EReal.rec with
  | bot => exact le_refl _
  | top => exact le_top
  | coe r => exact EReal.coe_nonneg.2 (Real.exp_pos r).le

/-- A score minus a maximum it is below has a finite exponential. -/
theorem exp_sub_real (a m : EReal) (h : a ≤ m) : ∃ r : ℝ, Ideal.exp (a - m) = (r : EReal) := by
  induction a using EReal.rec with
  | bot => exact ⟨0, by simp⟩
  | top => exact ⟨0, by rw [top_le_iff.1 h]; rfl⟩
  | coe r =>
    induction m using EReal.rec with
    | bot => exact absurd h (by simp)
    | top => exact ⟨0, rfl⟩
    | coe u => exact ⟨Real.exp (r - u), rfl⟩

/-- A kept score is at most the maximum. -/
theorem le_maxOf (s : Fin 192 → EReal) (sn : EReal) (t : Fin 192) : s t ≤ maxOf s sn :=
  le_max_of_le_left ((Finset.le_fold_max _).2 (Or.inr ⟨t, Finset.mem_univ t, le_refl _⟩))

/-- A softmax weight is never plus infinity. -/
theorem prob_ne_top (s : Fin 192 → EReal) (sn : EReal) (t : Fin 192) : prob s sn t ≠ ⊤ := by
  obtain ⟨r, hr⟩ := exp_sub_real (s t) (maxOf s sn) (le_maxOf s sn t)
  have hle : Ideal.exp (s t - maxOf s sn) ≤ denom s sn :=
    (Finset.single_le_sum (f := fun t => Ideal.exp (s t - maxOf s sn)) (fun i _ => exp_nonneg _) (Finset.mem_univ t)).trans
      (le_add_of_nonneg_right (exp_nonneg _))
  unfold prob Ideal.div
  by_cases hd : denom s sn = 0
  · rw [if_pos hd, if_neg (by rw [hd] at hle; exact not_lt.2 hle)]
    exact bot_ne_top
  · rw [if_neg hd, hr]
    generalize denom s sn = d
    induction d using EReal.rec with
    | bot => simp
    | top => simp
    | coe u => rw [← EReal.coe_inv, ← EReal.coe_mul]; exact EReal.coe_ne_top _

/-- A finite sum of terms none of which is plus infinity is not plus infinity. -/
theorem sum_ne_top {n : ℕ} (f : Fin n → EReal) (hf : ∀ i, f i ≠ ⊤) : ∑ i, f i ≠ ⊤ := by
  induction n with
  | zero => simp
  | succ n ih =>
    rw [Fin.sum_univ_succ]
    exact EReal.add_ne_top (hf 0) (ih _ fun i => hf i.succ)

section Pieces

variable (q : Vec Ideal S1x32x256 .bf16) (kk kv : Vec Ideal S192x4x256 .i8) (kn vn : Vec Ideal S1x4x256 .bf16)
  (ks vs : Vec Ideal S1x1x768 .f32)

/-- The kept rows' weights of one batch. -/
theorem probs_slice (n : Fin 4) (g : Fin 8) (t : Fin 192) :
    probs (scores q kk ks) (newScores q kn) (ix2 g (col t n)) = prob (sliceScore q kk ks n g) (sliceNew q kn n g) t := by
  refine (probs_apply (scores q kk ks) (newScores q kn) (fun n => sliceNew q kn n g) g (newScores_apply q kn g) n t).trans ?_
  refine congrArg (fun s => prob s (sliceNew q kn n g) t) (funext fun t => ?_)
  have h1 : ∀ h, (⟨(col t n).val / 4, h⟩ : Fin 192) = t := fun _ => Fin.ext (by simp only [col]; omega)
  have h2 : ∀ h, (⟨(col t n).val % 4, h⟩ : Fin 4) = n := fun _ => Fin.ext (by simp only [col]; omega)
  rw [scores_apply, h1, h2]

/-- The new row's weight of one batch. -/
theorem newProbs_slice (n : Fin 4) (g : Fin 8) :
    newProbs (scores q kk ks) (newScores q kn) (ix2 g (lane n)) = newProb (sliceScore q kk ks n g) (sliceNew q kn n g) := by
  refine (newProbs_apply (scores q kk ks) (newScores q kn) (fun n => sliceNew q kn n g) g (newScores_apply q kn g) n).trans ?_
  refine congrArg (fun s => newProb s (sliceNew q kn n g)) (funext fun t => ?_)
  have h1 : ∀ h, (⟨(col t n).val / 4, h⟩ : Fin 192) = t := fun _ => Fin.ext (by simp only [col]; omega)
  have h2 : ∀ h, (⟨(col t n).val % 4, h⟩ : Fin 4) = n := fun _ => Fin.ext (by simp only [col]; omega)
  rw [scores_apply, h1, h2]

/-- The output of one batch at an index. -/
theorem outPiece_apply (n : Fin 4) (g : Fin 8) (d : Fin 256) : outPiece q kk kv kn vn ks vs (ix3 0 (row n g) d) =
    (∑ t : Fin 192, prob (sliceScore q kk ks n g) (sliceNew q kn n g) t * vs (ix3 0 0 (col t n)) * code (kv (ix3 t n d)))
      + newProb (sliceScore q kk ks n g) (sliceNew q kn n g) * vn (ix3 0 n d) := by
  refine (outOf_apply _ _ kv vn vs n g d).trans ?_
  simp only [probs_slice, newProbs_slice]

/-- The masses of one batch at a column. -/
theorem massRow_apply (n : Fin 4) (t : Fin 192) : massRow q kk kn ks (ix2 0 (col t n)) =
    ∑ g : Fin 8, prob (sliceScore q kk ks n g) (sliceNew q kn n g) t := by
  have h : massRow q kk kn ks (ix2 0 (col t n)) = ∑ g : Fin 8, probs (scores q kk ks) (newScores q kn) (ix2 g (col t n)) := by
    generalize col t n = c
    pointwise [massRow, k0_pay19]
    rfl
  rw [h]
  simp only [probs_slice]

end Pieces

end Cert.KernelIdeal.Attend

end
-- ==== Proof.Stage.lean ====
module

public import proofs.«01_k».proof.Proof.Masses
public import Idealize.ShloMosaic.Lib.Pipeline.CanonAppend

/-!
# The staging buffers of `attend` after one grid point

A grid point handles eight batches. Both staging buffers are read at an index, first in terms of the staged blocks, then —
given what the blocks hold of the call's arguments — as the mathematics of `Spec`.
-/

@[expose] public section

set_option maxRecDepth 16384

noncomputable section

namespace Cert.KernelIdeal.Attend

open Cert.KernelIdeal Cert.KernelIdeal.Gen Idealize.ShloMosaic Cert.Attention

/-- `K` consecutive rows of a three-dimensional array, from row `o` on. -/
def rows {α : Type} {N n1 n2 : ℕ} (K : ℕ) (X : (⟨3, ![N, n1, n2]⟩ : Shape).Idx → α) (o : ℕ) (h : ∀ k : Fin K, o + k.val < N) :
    (⟨3, ![K, n1, n2]⟩ : Shape).Idx → α :=
  fun i => X (ix3 ⟨o + (i 0).val, h (i 0)⟩ (i 1) (i 2))

/-- A load of whole rows is those rows. -/
theorem ld_rows {Val : EltTy → Type} {e : EltTy} {N K n1 n2 : ℕ} (X : (⟨3, ![N, n1, n2]⟩ : Shape).Idx → Val e) (o : ℕ)
    (inb : ∀ a, (![o, 0, 0] : Fin 3 → ℕ) a + (⟨3, ![K, n1, n2]⟩ : Shape).size a ≤ (⟨3, ![N, n1, n2]⟩ : Shape).size a)
    (h : ∀ k : Fin K, o + k.val < N) :
    View.ld X (Rect.unit (s := ⟨3, ![N, n1, n2]⟩) ![o, 0, 0] (⟨3, ![K, n1, n2]⟩ : Shape).size inb) = rows K X o h := by
  funext i
  refine congrArg X (funext fun a => ?_)
  match a with
  | 0 => exact Fin.ext (congrArg (o + ·) (Nat.one_mul _))
  | 1 => exact Fin.ext ((Nat.zero_add _).trans (Nat.one_mul _))
  | 2 => exact Fin.ext ((Nat.zero_add _).trans (Nat.one_mul _))

section Blocks

variable (x0 : Vec Ideal S8x32x256 .bf16) (x1 x2 : Vec Ideal S8x4x256 .bf16) (x3 x4 : Vec Ideal S1536x4x256 .i8)
  (x5 x6 : Vec Ideal S8x1x768 .f32) (x7 : Vec Ideal S8x4x192 .f32)

/-- The queries of batch `b` of the block. -/
def blkQ (b : Fin 8) : Vec Ideal S1x32x256 .bf16 := rows 1 x0 b.val fun k => by omega

/-- The codes of batch `b` of the block. -/
def blkC (b : Fin 8) : Vec Ideal S192x4x256 .i8 := rows 192 x3 (192 * b.val) fun k => by omega

/-- The new rows of batch `b` of the block. -/
def blkN (b : Fin 8) : Vec Ideal S1x4x256 .bf16 := rows 1 x1 b.val fun k => by omega

/-- The scales of batch `b` of the block. -/
def blkS (b : Fin 8) : Vec Ideal S1x1x768 .f32 := rows 1 x5 b.val fun k => by omega

/-- The output of batch `b` of the block. -/
def blkOut (b : Fin 8) : FVec Ideal S1x32x256 .bf16 :=
  outPiece (blkQ x0 b) (blkC x3 b) (blkC x4 b) (blkN x1 b) (blkN x2 b) (blkS x5 b) (blkS x6 b)

/-- The masses of batch `b` of the block. -/
def blkMass (b : Fin 8) : FVec Ideal S1x768 .f32 := massRow (blkQ x0 b) (blkC x3 b) (blkN x1 b) (blkS x5 b)

/-- The outputs of the block's eight batches. -/
def stageOut : Vec Ideal S8x32x256 .bf16 := fun i => blkOut x0 x1 x2 x3 x4 x5 x6 (i 0) (ix3 0 (i 1) (i 2))

/-- One batch's rows lie inside the block. -/
theorem batch_inb (b : Fin 8) : ∀ a, (![b.val, 0, 0] : Fin 3 → ℕ) a + S1x32x256.size a ≤ S8x32x256.size a := by
  intro a
  have := b.isLt
  match a with
  | 0 => show b.val + 1 ≤ 8; omega
  | 1 => exact le_refl 32
  | 2 => exact le_refl 256

/-- A store of batch `b`'s output agrees with the block's outputs at every index it covers. -/
theorem piece_out (b : Fin 8) (inb) (x : S1x32x256.Idx) (p : FVec Ideal S1x32x256 .bf16) (hp : p = blkOut x0 x1 x2 x3 x4 x5 x6 b) :
    p x = stageOut x0 x1 x2 x3 x4 x5 x6 ((Rect.unit (s := S8x32x256) ![b.val, 0, 0] S1x32x256.size inb).emb x) := by
  subst hp
  have h0 : (x 0).val = 0 := by have := (x 0).isLt; change (x 0).val < 1 at this; omega
  have e0 : ((Rect.unit (s := S8x32x256) ![b.val, 0, 0] S1x32x256.size inb).emb x) 0 = b :=
    Fin.ext (show b.val + 1 * (x 0).val = b.val by omega)
  have e1 : ((Rect.unit (s := S8x32x256) ![b.val, 0, 0] S1x32x256.size inb).emb x) 1 = x 1 :=
    Fin.ext ((Nat.zero_add _).trans (Nat.one_mul _))
  have e2 : ((Rect.unit (s := S8x32x256) ![b.val, 0, 0] S1x32x256.size inb).emb x) 2 = x 2 :=
    Fin.ext ((Nat.zero_add _).trans (Nat.one_mul _))
  show _ = blkOut x0 x1 x2 x3 x4 x5 x6 _ (ix3 0 _ _)
  rw [e0, e1, e2]
  refine congrArg _ (funext fun a => ?_)
  match a with
  | 0 => exact Fin.ext h0
  | 1 => rfl
  | 2 => rfl

set_option maxHeartbeats 1000000 in
/-- The output staging buffer at an index. -/
theorem stage_out (b : Fin 8) (r : Fin 32) (d : Fin 256) :
    out0_8 x0 x1 x2 x3 x4 x5 x6 x7 (ix3 b r d) = blkOut x0 x1 x2 x3 x4 x5 x6 b (ix3 0 r d) := by
  rw [out0_8_eq]
  refine View.canon_append_of_pieces (Val := Elt Ideal) (stageOut x0 x1 x2 x3 x4 x5 x6) [] _ ?_ (ix3 b r d)
    (cover0_8 _ _ _ _ _ _ _ _ _)
  have hp : ∀ (b : Fin 8) (i0 i1 i2 i3),
      outPiece (View.ld x0 (Rect.unit (s := S8x32x256) ![b.val, 0, 0] S1x32x256.size i0))
        (View.ld x3 (Rect.unit (s := S1536x4x256) ![192 * b.val, 0, 0] S192x4x256.size i1))
        (View.ld x4 (Rect.unit (s := S1536x4x256) ![192 * b.val, 0, 0] S192x4x256.size i1))
        (View.ld x1 (Rect.unit (s := S8x4x256) ![b.val, 0, 0] S1x4x256.size i2))
        (View.ld x2 (Rect.unit (s := S8x4x256) ![b.val, 0, 0] S1x4x256.size i2))
        (View.ld x5 (Rect.unit (s := S8x1x768) ![b.val, 0, 0] S1x1x768.size i3))
        (View.ld x6 (Rect.unit (s := S8x1x768) ![b.val, 0, 0] S1x1x768.size i3)) = blkOut x0 x1 x2 x3 x4 x5 x6 b := by
    intro b i0 i1 i2 i3
    unfold blkOut blkQ blkC blkN blkS
    rw [← ld_rows x0 b.val i0, ← ld_rows x3 (192 * b.val) i1, ← ld_rows x4 (192 * b.val) i1, ← ld_rows x1 b.val i2,
      ← ld_rows x2 b.val i2, ← ld_rows x5 b.val i3, ← ld_rows x6 b.val i3]
  intro p hmem
  simp only [List.mem_cons, List.not_mem_nil, or_false] at hmem
  rcases hmem with h | h | h | h | h | h | h | h <;> subst h
  · exact fun x => piece_out x0 x1 x2 x3 x4 x5 x6 7 (batch_inb 7) x _ (hp 7 _ _ _ _)
  · exact fun x => piece_out x0 x1 x2 x3 x4 x5 x6 6 (batch_inb 6) x _ (hp 6 _ _ _ _)
  · exact fun x => piece_out x0 x1 x2 x3 x4 x5 x6 5 (batch_inb 5) x _ (hp 5 _ _ _ _)
  · exact fun x => piece_out x0 x1 x2 x3 x4 x5 x6 4 (batch_inb 4) x _ (hp 4 _ _ _ _)
  · exact fun x => piece_out x0 x1 x2 x3 x4 x5 x6 3 (batch_inb 3) x _ (hp 3 _ _ _ _)
  · exact fun x => piece_out x0 x1 x2 x3 x4 x5 x6 2 (batch_inb 2) x _ (hp 2 _ _ _ _)
  · exact fun x => piece_out x0 x1 x2 x3 x4 x5 x6 1 (batch_inb 1) x _ (hp 1 _ _ _ _)
  · exact fun x => piece_out x0 x1 x2 x3 x4 x5 x6 0 (batch_inb 0) x _ (hp 0 _ _ _ _)

/-- The stacked masses of the eight batches, at row `b * 4 + n`. -/
theorem stacked_mass (b : Fin 8) (n : Fin 4) (c : Fin 768) :
    k0_pay170
      (massRow (View.ld x0 r0_0) (View.ld x3 r0_1) (View.ld x1 r0_2) (View.ld x5 r0_3))
      (massRow (View.ld x0 r0_4) (View.ld x3 r0_5) (View.ld x1 r0_6) (View.ld x5 r0_7))
      (massRow (View.ld x0 r0_8) (View.ld x3 r0_9) (View.ld x1 r0_10) (View.ld x5 r0_11))
      (massRow (View.ld x0 r0_12) (View.ld x3 r0_13) (View.ld x1 r0_14) (View.ld x5 r0_15))
      (massRow (View.ld x0 r0_16) (View.ld x3 r0_17) (View.ld x1 r0_18) (View.ld x5 r0_19))
      (massRow (View.ld x0 r0_20) (View.ld x3 r0_21) (View.ld x1 r0_22) (View.ld x5 r0_23))
      (massRow (View.ld x0 r0_24) (View.ld x3 r0_25) (View.ld x1 r0_26) (View.ld x5 r0_27))
      (massRow (View.ld x0 r0_28) (View.ld x3 r0_29) (View.ld x1 r0_30) (View.ld x5 r0_31)) (ix2 (tableRow b n) c)
      = blkMass x0 x1 x3 x5 b (ix2 0 c) := by
  have hp : ∀ (b : Fin 8) (i0 i1 i2 i3),
      massRow (View.ld x0 (Rect.unit (s := S8x32x256) ![b.val, 0, 0] S1x32x256.size i0))
        (View.ld x3 (Rect.unit (s := S1536x4x256) ![192 * b.val, 0, 0] S192x4x256.size i1))
        (View.ld x1 (Rect.unit (s := S8x4x256) ![b.val, 0, 0] S1x4x256.size i2))
        (View.ld x5 (Rect.unit (s := S8x1x768) ![b.val, 0, 0] S1x1x768.size i3)) = blkMass x0 x1 x3 x5 b := by
    intro b i0 i1 i2 i3
    unfold blkMass blkQ blkC blkN blkS
    rw [← ld_rows x0 b.val i0, ← ld_rows x3 (192 * b.val) i1, ← ld_rows x1 b.val i2, ← ld_rows x5 b.val i3]
  rw [stacked_apply]
  refine congrFun ?_ _
  match b with
  | 0 => exact hp 0 _ _ _ _
  | 1 => exact hp 1 _ _ _ _
  | 2 => exact hp 2 _ _ _ _
  | 3 => exact hp 3 _ _ _ _
  | 4 => exact hp 4 _ _ _ _
  | 5 => exact hp 5 _ _ _ _
  | 6 => exact hp 6 _ _ _ _
  | 7 => exact hp 7 _ _ _ _

/-- A mass is never plus infinity. -/
theorem mass_ne_top (b : Fin 8) (n : Fin 4) (t : Fin 192) : blkMass x0 x1 x3 x5 b (ix2 0 (col t n)) ≠ ⊤ := by
  unfold blkMass
  rw [massRow_apply]
  exact sum_ne_top _ fun g => prob_ne_top _ _ _

/-- The score staging buffer at an index. -/
theorem stage_score (b : Fin 8) (n : Fin 4) (t : Fin 192) :
    out0_9 x0 x1 x2 x3 x4 x5 x6 x7 (ix3 b n t) = x7 (ix3 b n t) + blkMass x0 x1 x3 x5 b (ix2 0 (col t n)) := by
  rw [out0_9_eq, View.canon_unit_zero (by funext a; fin_cases a <;> rfl), View.ld_unit_zero (by funext a; fin_cases a <;> rfl)]
  unfold massTable
  refine (total_apply _ x7 b n t ?_).trans ?_
  · rw [stacked_mass]; exact mass_ne_top x0 x1 x3 x5 b n t
  · rw [stacked_mass]

section Arguments

variable (X : (⟨4, ![32, 1, 32, 256]⟩ : Shape).Idx → EReal) (KN VN : (⟨4, ![32, 1, 4, 256]⟩ : Shape).Idx → EReal)
  (KK KV : (⟨4, ![32, 192, 4, 256]⟩ : Shape).Idx → BitVec 8) (KS VS : (⟨3, ![32, 192, 4]⟩ : Shape).Idx → EReal)
  (old : (⟨3, ![32, 4, 192]⟩ : Shape).Idx → EReal) (B : Fin 8 → Fin 32)
  (h0 : ∀ b r d, x0 (ix3 b r d) = X (ix4 (B b) 0 r d))
  (h1 : ∀ b n d, x1 (ix3 b n d) = KN (ix4 (B b) 0 n d))
  (h2 : ∀ b n d, x2 (ix3 b n d) = VN (ix4 (B b) 0 n d))
  (h3 : ∀ (b : Fin 8) (t : Fin 192) (n : Fin 4) (d : Fin 256), x3 (ix3 ⟨192 * b.val + t.val, by omega⟩ n d) = KK (ix4 (B b) t n d))
  (h4 : ∀ (b : Fin 8) (t : Fin 192) (n : Fin 4) (d : Fin 256), x4 (ix3 ⟨192 * b.val + t.val, by omega⟩ n d) = KV (ix4 (B b) t n d))
  (h5 : ∀ b t n, x5 (ix3 b 0 (col t n)) = KS (ix3 (B b) t n))
  (h6 : ∀ b t n, x6 (ix3 b 0 (col t n)) = VS (ix3 (B b) t n))
  (h7 : ∀ b n t, x7 (ix3 b n t) = old (ix3 (B b) n t))

include h0 h3 h5 in
/-- The kept rows' scores of a batch of the block are the scores of the batch it holds. -/
theorem blk_score (b : Fin 8) (n : Fin 4) (g : Fin 8) :
    sliceScore (blkQ x0 b) (blkC x3 b) (blkS x5 b) n g = score X KK KS (B b) n g := by
  funext t
  refine congrArg₂ (· * ·) (Finset.sum_congr rfl fun d _ => congrArg₂ (· * ·) (h0 b (row n g) d) (congrArg code (h3 b t n d)))
    (congrArg (· * sixteenth) (h5 b t n))

include h0 h1 in
/-- The new row's score of a batch of the block is the new score of the batch it holds. -/
theorem blk_newScore (b : Fin 8) (n : Fin 4) (g : Fin 8) : sliceNew (blkQ x0 b) (blkN x1 b) n g = newScore X KN (B b) n g :=
  congrArg (· * sixteenth) (Finset.sum_congr rfl fun d _ => congrArg₂ (· * ·) (h0 b (row n g) d) (h1 b n d))

include h0 h1 h2 h3 h4 h5 h6 in
/-- The output staging buffer holds the attention outputs of the batches its blocks hold. -/
theorem stage_out_spec (b : Fin 8) (n : Fin 4) (g : Fin 8) (d : Fin 256) :
    out0_8 x0 x1 x2 x3 x4 x5 x6 x7 (ix3 b (row n g) d) = out X KN VN KK KV KS VS (B b) n g d := by
  rw [stage_out, blkOut, outPiece_apply, blk_score x0 x3 x5 X KK KS B h0 h3 h5, blk_newScore x0 x1 X KN B h0 h1]
  refine congrArg₂ (· + ·) (Finset.sum_congr rfl fun t _ => congrArg₂ (· * ·) (congrArg (_ * ·) (h6 b t n)) (congrArg code (h4 b t n d)))
    (congrArg (_ * ·) (h2 b n d))

include h0 h1 h3 h5 h7 in
/-- The score staging buffer holds the updated scores of the batches its blocks hold. -/
theorem stage_score_spec (b : Fin 8) (n : Fin 4) (t : Fin 192) :
    out0_9 x0 x1 x2 x3 x4 x5 x6 x7 (ix3 b n t) = keptScore X KN KK KS old (B b) n t := by
  rw [stage_score, blkMass, massRow_apply, h7]
  simp only [blk_score x0 x3 x5 X KK KS B h0 h3 h5, blk_newScore x0 x1 X KN B h0 h1]
  rfl

end Arguments

end Blocks

end Cert.KernelIdeal.Attend

end
-- ==== Proof.Arrays.lean ====
module

public import proofs.«01_k».proof.Proof.Stage
public import Idealize.ShloMosaic.Lib.Pipeline.ValueKit

/-!
# The call's results as arrays

What the windows' blocks hold of the call's arguments, and what the two result arrays hold when the call has run.
-/

@[expose] public section

set_option maxRecDepth 16384

noncomputable section

namespace Cert.KernelIdeal.Attend

open Cert.KernelIdeal Cert.KernelIdeal.Gen Cert.KernelIdeal.Value Idealize.ShloMosaic Idealize.ShloMosaic.TcCoe Cert.Attention

variable (m : (ℓ : Loc nD τ sig) → Buf (Elt Ideal) ℓ) (c : Dev nD)

/-- The batch that grid point `t` stages at place `b` of its blocks. -/
def batchOf (t : Fin cfg0.N) (b : Fin 8) : Fin 32 :=
  ⟨t.val * 8 + b.val, by have h : cfg0.N = 4 := by decide
                         have := t.isLt; omega⟩

section Casts

variable {α : Type}

/-- The queries without their unit axis. -/
theorem cast_queries (X : S32x1x32x256.Idx → α) (b r : Fin 32) (d : Fin 256) :
    shapeCast S32x32x256 X shapeCasts_S32x1x32x256_S32x32x256 (ix3 b r d) = X (ix4 b 0 r d) := by
  pointwise

/-- The new rows without their unit axis. -/
theorem cast_new (X : S32x1x4x256.Idx → α) (b : Fin 32) (n : Fin 4) (d : Fin 256) :
    shapeCast S32x4x256 X shapeCasts_S32x1x4x256_S32x4x256 (ix3 b n d) = X (ix4 b 0 n d) := by
  pointwise

/-- The kept codes of all batches stacked. -/
theorem cast_codes (X : S32x192x4x256.Idx → α) (b : Fin 32) (u : Fin 192) (n : Fin 4) (d : Fin 256) :
    shapeCast S6144x4x256 X shapeCasts_S32x192x4x256_S6144x4x256 (ix3 ⟨192 * b.val + u.val, by omega⟩ n d) = X (ix4 b u n d) := by
  pointwise

/-- The kept scales of a batch side by side. -/
theorem cast_scales (X : S32x192x4.Idx → α) (b : Fin 32) (u : Fin 192) (n : Fin 4) :
    shapeCast S32x1x768 X shapeCasts_S32x192x4_S32x1x768 (ix3 b 0 (col u n)) = X (ix3 b u n) := by
  have h1 : ∀ h, (⟨(col u n).val / 4, h⟩ : Fin 192) = u := fun _ => Fin.ext (by simp only [col]; omega)
  have h2 : ∀ h, (⟨(col u n).val % 4, h⟩ : Fin 4) = n := fun _ => Fin.ext (by simp only [col]; omega)
  pointwise
  simp only [h1, h2]

end Casts

/-- The queries as the call finds them. -/
theorem V_v0 : V m c main_v0 = shapeCast S32x32x256 (m ((c : Thread nD τ).loc main_arg0)) shapeCasts_S32x1x32x256_S32x32x256 := by
  simp only [V, hostOps0]; after_results_simp
  all_goals rfl

/-- The new keys as the call finds them. -/
theorem V_v1 : V m c main_v1 = shapeCast S32x4x256 (m ((c : Thread nD τ).loc main_arg1)) shapeCasts_S32x1x4x256_S32x4x256 := by
  simp only [V, hostOps0]; after_results_simp
  all_goals rfl

/-- The new values as the call finds them. -/
theorem V_v2 : V m c main_v2 = shapeCast S32x4x256 (m ((c : Thread nD τ).loc main_arg2)) shapeCasts_S32x1x4x256_S32x4x256 := by
  simp only [V, hostOps0]; after_results_simp
  all_goals rfl

/-- The kept key codes as the call finds them. -/
theorem V_v3 : V m c main_v3 = shapeCast S6144x4x256 (m ((c : Thread nD τ).loc main_arg3)) shapeCasts_S32x192x4x256_S6144x4x256 := by
  simp only [V, hostOps0]; after_results_simp
  all_goals rfl

/-- The kept value codes as the call finds them. -/
theorem V_v4 : V m c main_v4 = shapeCast S6144x4x256 (m ((c : Thread nD τ).loc main_arg5)) shapeCasts_S32x192x4x256_S6144x4x256 := by
  simp only [V, hostOps0]; after_results_simp
  all_goals rfl

/-- The kept key scales as the call finds them. -/
theorem V_v5 : V m c main_v5 = shapeCast S32x1x768 (m ((c : Thread nD τ).loc main_arg4)) shapeCasts_S32x192x4_S32x1x768 := by
  simp only [V, hostOps0]; after_results_simp
  all_goals rfl

/-- The kept value scales as the call finds them. -/
theorem V_v6 : V m c main_v6 = shapeCast S32x1x768 (m ((c : Thread nD τ).loc main_arg6)) shapeCasts_S32x192x4_S32x1x768 := by
  simp only [V, hostOps0]; after_results_simp
  all_goals rfl

/-- The block index of window 0: the grid point, along the first axis. -/
theorem index0 : ∀ t : Fin grid0.N, win0_0.index t = ![t.val, 0, 0] := by decide +kernel

/-- The block index of window 1: the grid point, along the first axis. -/
theorem index1 : ∀ t : Fin grid0.N, win0_1.index t = ![t.val, 0, 0] := by decide +kernel

/-- The block index of window 2: the grid point, along the first axis. -/
theorem index2 : ∀ t : Fin grid0.N, win0_2.index t = ![t.val, 0, 0] := by decide +kernel

/-- The block index of window 3: the grid point, along the first axis. -/
theorem index3 : ∀ t : Fin grid0.N, win0_3.index t = ![t.val, 0, 0] := by decide +kernel

/-- The block index of window 4: the grid point, along the first axis. -/
theorem index4 : ∀ t : Fin grid0.N, win0_4.index t = ![t.val, 0, 0] := by decide +kernel

/-- The block index of window 5: the grid point, along the first axis. -/
theorem index5 : ∀ t : Fin grid0.N, win0_5.index t = ![t.val, 0, 0] := by decide +kernel

/-- The block index of window 6: the grid point, along the first axis. -/
theorem index6 : ∀ t : Fin grid0.N, win0_6.index t = ![t.val, 0, 0] := by decide +kernel

/-- The block index of window 7: the grid point, along the first axis. -/
theorem index7 : ∀ t : Fin grid0.N, win0_7.index t = ![t.val, 0, 0] := by decide +kernel

/-- The block index of window 8: the grid point, along the first axis. -/
theorem index8 : ∀ t : Fin grid0.N, win0_8.index t = ![t.val, 0, 0] := by decide +kernel

/-- The block index of window 9: the grid point, along the first axis. -/
theorem index9 : ∀ t : Fin grid0.N, win0_9.index t = ![t.val, 0, 0] := by decide +kernel

/-- Three coordinates with the values of three others. -/
theorem ix3_ext {n0 n1 n2 : ℕ} (i : (⟨3, ![n0, n1, n2]⟩ : Shape).Idx) (a : Fin n0) (b : Fin n1) (d : Fin n2)
    (h0 : (i 0).val = a.val) (h1 : (i 1).val = b.val) (h2 : (i 2).val = d.val) : i = ix3 a b d :=
  funext fun k => match k with
    | 0 => Fin.ext h0
    | 1 => Fin.ext h1
    | 2 => Fin.ext h2

/-- The queries staged at place `b` of grid point `t`'s block. -/
theorem blk0 (t : Fin cfg0.N) (b : Fin 8) (r : Fin 32) (d : Fin 256) :
    iblk m c 0 t (ix3 b r d) = m ((c : Thread nD τ).loc main_arg0) (ix4 (batchOf t b) 0 r d) := by
  have e : (win0_0.blk t).view.emb (ix3 b r d) = ix3 (batchOf t b) r d := by
    refine ix3_ext _ _ _ _ ?_ ?_ ?_ <;> blk_simp [index0]
    all_goals rfl
  unfold iblk
  blk_simp
  rw [e, V_v0, cast_queries]

/-- The new keys staged at place `b` of grid point `t`'s block. -/
theorem blk1 (t : Fin cfg0.N) (b : Fin 8) (n : Fin 4) (d : Fin 256) :
    iblk m c 1 t (ix3 b n d) = m ((c : Thread nD τ).loc main_arg1) (ix4 (batchOf t b) 0 n d) := by
  have e : (win0_1.blk t).view.emb (ix3 b n d) = ix3 (batchOf t b) n d := by
    refine ix3_ext _ _ _ _ ?_ ?_ ?_ <;> blk_simp [index1]
    all_goals rfl
  unfold iblk
  blk_simp
  rw [e, V_v1, cast_new]

/-- The new values staged at place `b` of grid point `t`'s block. -/
theorem blk2 (t : Fin cfg0.N) (b : Fin 8) (n : Fin 4) (d : Fin 256) :
    iblk m c 2 t (ix3 b n d) = m ((c : Thread nD τ).loc main_arg2) (ix4 (batchOf t b) 0 n d) := by
  have e : (win0_2.blk t).view.emb (ix3 b n d) = ix3 (batchOf t b) n d := by
    refine ix3_ext _ _ _ _ ?_ ?_ ?_ <;> blk_simp [index2]
    all_goals rfl
  unfold iblk
  blk_simp
  rw [e, V_v2, cast_new]

/-- The kept key codes staged at place `b` of grid point `t`'s block. -/
theorem blk3 (t : Fin cfg0.N) (b : Fin 8) (u : Fin 192) (n : Fin 4) (d : Fin 256) :
    iblk m c 3 t (ix3 ⟨192 * b.val + u.val, by omega⟩ n d) = m ((c : Thread nD τ).loc main_arg3) (ix4 (batchOf t b) u n d) := by
  have e : (win0_3.blk t).view.emb (ix3 ⟨192 * b.val + u.val, by omega⟩ n d) = ix3 ⟨192 * (batchOf t b).val + u.val, by omega⟩ n d := by
    refine ix3_ext _ _ _ _ ?_ ?_ ?_ <;> blk_simp [index3]
    simp only [batchOf]; omega
  unfold iblk
  blk_simp
  rw [e, V_v3, cast_codes]

/-- The kept value codes staged at place `b` of grid point `t`'s block. -/
theorem blk4 (t : Fin cfg0.N) (b : Fin 8) (u : Fin 192) (n : Fin 4) (d : Fin 256) :
    iblk m c 4 t (ix3 ⟨192 * b.val + u.val, by omega⟩ n d) = m ((c : Thread nD τ).loc main_arg5) (ix4 (batchOf t b) u n d) := by
  have e : (win0_4.blk t).view.emb (ix3 ⟨192 * b.val + u.val, by omega⟩ n d) = ix3 ⟨192 * (batchOf t b).val + u.val, by omega⟩ n d := by
    refine ix3_ext _ _ _ _ ?_ ?_ ?_ <;> blk_simp [index4]
    simp only [batchOf]; omega
  unfold iblk
  blk_simp
  rw [e, V_v4, cast_codes]

/-- The kept key scales staged at place `b` of grid point `t`'s block. -/
theorem blk5 (t : Fin cfg0.N) (b : Fin 8) (u : Fin 192) (n : Fin 4) :
    iblk m c 5 t (ix3 b 0 (col u n)) = m ((c : Thread nD τ).loc main_arg4) (ix3 (batchOf t b) u n) := by
  have e : (win0_5.blk t).view.emb (ix3 b 0 (col u n)) = ix3 (batchOf t b) 0 (col u n) := by
    refine ix3_ext _ _ _ _ ?_ ?_ ?_ <;> blk_simp [index5]
    all_goals rfl
  unfold iblk
  blk_simp
  rw [e, V_v5, cast_scales]

/-- The kept value scales staged at place `b` of grid point `t`'s block. -/
theorem blk6 (t : Fin cfg0.N) (b : Fin 8) (u : Fin 192) (n : Fin 4) :
    iblk m c 6 t (ix3 b 0 (col u n)) = m ((c : Thread nD τ).loc main_arg6) (ix3 (batchOf t b) u n) := by
  have e : (win0_6.blk t).view.emb (ix3 b 0 (col u n)) = ix3 (batchOf t b) 0 (col u n) := by
    refine ix3_ext _ _ _ _ ?_ ?_ ?_ <;> blk_simp [index6]
    all_goals rfl
  unfold iblk
  blk_simp
  rw [e, V_v6, cast_scales]

/-- The old scores staged at place `b` of grid point `t`'s block. -/
theorem blk7 (t : Fin cfg0.N) (b : Fin 8) (n : Fin 4) (u : Fin 192) :
    iblk m c 7 t (ix3 b n u) = m ((c : Thread nD τ).loc main_arg7) (ix3 (batchOf t b) n u) := by
  have e : (win0_7.blk t).view.emb (ix3 b n u) = ix3 (batchOf t b) n u := by
    refine ix3_ext _ _ _ _ ?_ ?_ ?_ <;> blk_simp [index7]
    all_goals rfl
  unfold iblk
  blk_simp
  rw [e, V_main_arg7]

/-- The attention outputs of the whole call, as the first result's array. -/
def outArray : Vec Ideal S32x32x256 .bf16 := fun i =>
  have h : (i 1).val < 32 := (i 1).isLt
  out (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg4)) (m ((c : Thread nD τ).loc main_arg6))
    (i 0) ⟨(i 1).val / 8, by omega⟩ ⟨(i 1).val % 8, by omega⟩ (i 2)

/-- The updated scores of the whole call, as the second result's array. -/
def scoreArray : Vec Ideal S32x4x192 .f32 := fun i =>
  keptScore (m ((c : Thread nD τ).loc main_arg0)) (m ((c : Thread nD τ).loc main_arg1))
    (m ((c : Thread nD τ).loc main_arg3)) (m ((c : Thread nD τ).loc main_arg4)) (m ((c : Thread nD τ).loc main_arg7))
    (i 0) (i 1) (i 2)

/-- The first result's array at a query row of a head. -/
theorem outArray_apply (b : Fin 32) (n : Fin 4) (g : Fin 8) (d : Fin 256) : outArray m c (ix3 b (row n g) d) =
    out (m ((c : Thread nD τ).loc main_arg0)) (m ((c : Thread nD τ).loc main_arg1)) (m ((c : Thread nD τ).loc main_arg2))
      (m ((c : Thread nD τ).loc main_arg3)) (m ((c : Thread nD τ).loc main_arg5)) (m ((c : Thread nD τ).loc main_arg4)) (m ((c : Thread nD τ).loc main_arg6)) b n g d := by
  have h1 : ∀ h, (⟨(row n g).val / 8, h⟩ : Fin 4) = n := fun _ => Fin.ext (by simp only [row]; omega)
  have h2 : ∀ h, (⟨(row n g).val % 8, h⟩ : Fin 8) = g := fun _ => Fin.ext (by simp only [row]; omega)
  exact congrArg₂ (fun n g => out (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg4)) (m ((c : Thread nD τ).loc main_arg6)) b n g d) (h1 _) (h2 _)

/-- Every query row is a query row of a head. -/
theorem exists_row (r : Fin 32) : ∃ (n : Fin 4) (g : Fin 8), r = row n g :=
  ⟨⟨r.val / 8, by omega⟩, ⟨r.val % 8, by omega⟩, Fin.ext (by simp only [row]; omega)⟩

/-- When the call has run, the first result's array holds the attention outputs. -/
theorem out_array : (dats m 0 c).arrAt 8 cfg0.N = outArray m c := by
  refine (dats m 0 c).arrAt_eq_of_covers 8 (outArray m c) (by decide +kernel) fun t hf y => ?_
  blk_simp
  rw [after0_8]
  obtain ⟨b, r, d, rfl⟩ : ∃ (b : Fin 8) (r : Fin 32) (d : Fin 256), y = ix3 b r d := ⟨y 0, y 1, y 2, ix3_ext y _ _ _ rfl rfl rfl⟩
  obtain ⟨n, g, rfl⟩ := exists_row r
  have e : (win0_8.blk t).view.emb (ix3 b (row n g) d) = ix3 (batchOf t b) (row n g) d := by
    refine ix3_ext _ _ _ _ ?_ ?_ ?_ <;> blk_simp [index8]
    all_goals rfl
  rw [e, outArray_apply]
  exact stage_out_spec (iblk m c 0 t) (iblk m c 1 t) (iblk m c 2 t) (iblk m c 3 t) (iblk m c 4 t) (iblk m c 5 t) (iblk m c 6 t)
    (iblk m c 7 t) _ _ _ _ _ _ _ (batchOf t) (blk0 m c t) (blk1 m c t) (blk2 m c t) (blk3 m c t) (blk4 m c t) (blk5 m c t) (blk6 m c t) b n g d

/-- When the call has run, the second result's array holds the updated scores. -/
theorem score_array : (dats m 0 c).arrAt 9 cfg0.N = scoreArray m c := by
  refine (dats m 0 c).arrAt_eq_of_covers 9 (scoreArray m c) (by decide +kernel) fun t hf y => ?_
  blk_simp
  rw [after0_9]
  obtain ⟨b, n, u, rfl⟩ : ∃ (b : Fin 8) (n : Fin 4) (u : Fin 192), y = ix3 b n u := ⟨y 0, y 1, y 2, ix3_ext y _ _ _ rfl rfl rfl⟩
  have e : (win0_9.blk t).view.emb (ix3 b n u) = ix3 (batchOf t b) n u := by
    refine ix3_ext _ _ _ _ ?_ ?_ ?_ <;> blk_simp [index9]
    all_goals rfl
  rw [e]
  exact stage_score_spec (iblk m c 0 t) (iblk m c 1 t) (iblk m c 2 t) (iblk m c 3 t) (iblk m c 4 t) (iblk m c 5 t) (iblk m c 6 t)
    (iblk m c 7 t) _ _ _ _ _ (batchOf t) (blk0 m c t) (blk1 m c t) (blk3 m c t) (blk5 m c t) (blk7 m c t) b n u

end Cert.KernelIdeal.Attend

end
-- ==== Proof.Reference.lean ====
module

public import proofs.«01_k».proof.Proof.Spec
public import proofs.«01_k».proof.Proof.Gen.ReferenceIdeal.Run

/-!
# The reference's two results at an index

The reference's terms are cut into a few named stages over arrays of plain type; each stage is read at an index, and the
two results are the functions of `Spec.lean`.
-/

@[expose] public section

set_option maxRecDepth 16384

noncomputable section

namespace Cert.ReferenceIdeal.Attend

open Cert.ReferenceIdeal Cert.ReferenceIdeal.Gen Idealize.ShloMosaic Idealize.ShloMosaic.TcCoe Cert.Attention

/-- The int8 codes as values of the products. -/
def codes (k : IVec S32x192x4x256 8) : FVec Ideal S32x192x4x256 .bf16 :=
  truncf .bf16 (sitofp .f32 (extsi 32 k natLt_8_32)) bitsLt_bf16_f32

/-- The kept rows' scaled scores. -/
def cacheScores (x : FVec Ideal S32x1x32x256 .bf16) (kk : IVec S32x192x4x256 8) (ks : FVec Ideal S32x192x4 .f32) :
    FVec Ideal S32x4x8x1x192 .f32 :=
  mulf (transpose S32x4x8x1x192 [0, 1, 4, 3, 2] (Host.dotGeneral dot_S32x192x4x256_S32x1x4x8x256_S32x4x192x1x8_3_4_1_13_02_02 none (codes kk) (shapeCast _ x shapeCasts_S32x1x32x256_S32x1x4x8x256)) transposes_S32x4x192x1x8_S32x4x8x1x192_0_1_4_3_2) (broadcastInDim S32x4x8x1x192 ![0, 1, 2, 3, 4] bcast_S32x4x1x1x192_S32x4x8x1x192_0_1_2_3_4 (mulf (broadcastInDim S32x4x1x1x192 ![0, 1, 4] bcast_S32x4x192_S32x4x1x1x192_0_1_4 (transpose S32x4x192 [0, 2, 1] ks transposes_S32x192x4_S32x4x192_0_2_1)) (broadcastInDim S32x4x1x1x192 ![] bcast_S_S32x4x1x1x192 (constant S_ .f32 0x3D800000#32))))

/-- The new row's scaled scores; the causal test of a single token is true. -/
def newScores (x : FVec Ideal S32x1x32x256 .bf16) (kn : FVec Ideal S32x1x4x256 .bf16) : FVec Ideal S32x4x8x1x1 .f32 :=
  select (broadcastInDim S32x4x8x1x1 ![3, 4] bcast_S1x1_S32x4x8x1x1_3_4 (cmpi .sge (broadcastInDim S1x1 ![0] bcast_S1_S1x1_0 (iotaInDim S1 32 0)) (broadcastInDim S1x1 ![1] bcast_S1_S1x1_1 (iotaInDim S1 32 0)))) (mulf (transpose S32x4x8x1x1 [0, 1, 4, 3, 2] (Host.dotGeneral dot_S32x1x4x256_S32x1x4x8x256_S32x4x1x1x8_3_4_1_13_02_02 none kn (shapeCast _ x shapeCasts_S32x1x32x256_S32x1x4x8x256)) transposes_S32x4x1x1x8_S32x4x8x1x1_0_1_4_3_2) (broadcastInDim S32x4x8x1x1 ![] bcast_S_S32x4x8x1x1 (constant S_ .f32 0x3D800000#32))) (broadcastInDim S32x4x8x1x1 ![] bcast_S_S32x4x8x1x1 (id (constant S_ .f32 0xFF800000#32)))

/-- The kept rows' scores followed by the new row's. -/
def allScores (s : FVec Ideal S32x4x8x1x192 .f32) (sn : FVec Ideal S32x4x8x1x1 .f32) : FVec Ideal S32x4x8x1x193 .f32 :=
  concatenate S32x4x8x1x193 4 [⟨S32x4x8x1x192, s⟩, ⟨S32x4x8x1x1, sn⟩] concatenates_S32x4x8x1x192_S32x4x8x1x1_S32x4x8x1x193_d4

/-- The largest score of each query row. -/
def maxima (a : FVec Ideal S32x4x8x1x193 .f32) : FVec Ideal S32x4x8x1 .f32 :=
  maximumf (broadcastInDim S32x4x8x1 ![] bcast_S_S32x4x8x1 (constant S_ .f32 0xFF800000#32)) (Host.reduce FloatOps.maximumf a (constant S_ .f32 0xFF800000#32) reducesTo_S32x4x8x1x193_S32x4x8x1_d4 h_S_)

/-- The exponentials of the scores less the largest. -/
def exps (a : FVec Ideal S32x4x8x1x193 .f32) : FVec Ideal S32x4x8x1x193 .f32 :=
  Host.exp (subf a (broadcastInDim S32x4x8x1x193 ![0, 1, 2, 3, 4] bcast_S32x4x8x1x1_S32x4x8x1x193_0_1_2_3_4 (broadcastInDim S32x4x8x1x1 ![0, 1, 2, 3] bcast_S32x4x8x1_S32x4x8x1x1_0_1_2_3 (maxima a))))

/-- The softmax over the 193 scores. -/
def softmax (a : FVec Ideal S32x4x8x1x193 .f32) : FVec Ideal S32x4x8x1x193 .f32 :=
  Host.divf (exps a) (broadcastInDim S32x4x8x1x193 ![0, 1, 2, 3, 4] bcast_S32x4x8x1x1_S32x4x8x1x193_0_1_2_3_4 (broadcastInDim S32x4x8x1x1 ![0, 1, 2, 3] bcast_S32x4x8x1_S32x4x8x1x1_0_1_2_3 (Host.reduceAdd (exps a) (constant S_ .f32 0x00000000#32) reducesTo_S32x4x8x1x193_S32x4x8x1_d4 h_S_)))

/-- The attention output from the softmax weights. -/
def outOf (p : FVec Ideal S32x4x8x1x193 .f32) (vn : FVec Ideal S32x1x4x256 .bf16) (kv : IVec S32x192x4x256 8)
    (vs : FVec Ideal S32x192x4 .f32) : FVec Ideal S32x32x256 .bf16 :=
  truncf .bf16 (shapeCast _ (transpose S32x1x4x8x256 [0, 3, 1, 2, 4] (addf (Host.dotGeneral dot_S32x4x8x1x192_S32x192x4x256_S32x4x8x1x256_4_1_23_3_01_02 none (truncf .bf16 (mulf (extractStridedSlice S32x4x8x1x192 ![0, 0, 0, 0, 0] p slices_S32x4x8x1x193_S32x4x8x1x192_0_0_0_0_0) (broadcastInDim S32x4x8x1x192 ![0, 1, 2, 3, 4] bcast_S32x4x1x1x192_S32x4x8x1x192_0_1_2_3_4 (broadcastInDim S32x4x1x1x192 ![0, 1, 4] bcast_S32x4x192_S32x4x1x1x192_0_1_4 (transpose S32x4x192 [0, 2, 1] vs transposes_S32x192x4_S32x4x192_0_2_1)))) bitsLt_bf16_f32) (codes kv)) (Host.dotGeneral dot_S32x4x8x1x1_S32x1x4x256_S32x4x8x1x256_4_1_23_3_01_02 none (truncf .bf16 (extractStridedSlice S32x4x8x1x1 ![0, 0, 0, 0, 192] p slices_S32x4x8x1x193_S32x4x8x1x1_0_0_0_0_192) bitsLt_bf16_f32) vn)) transposes_S32x4x8x1x256_S32x1x4x8x256_0_3_1_2_4) shapeCasts_S32x1x4x8x256_S32x32x256) bitsLt_bf16_f32

/-- The updated kept scores from the softmax weights. -/
def scoreOf (p : FVec Ideal S32x4x8x1x193 .f32) (old : FVec Ideal S32x4x192 .f32) : FVec Ideal S32x4x192 .f32 :=
  addf old (Host.reduceAdd (extractStridedSlice S32x4x8x1x192 ![0, 0, 0, 0, 0] p slices_S32x4x8x1x193_S32x4x8x1x192_0_0_0_0_0) (constant S_ .f32 0x00000000#32) reducesTo_S32x4x8x1x192_S32x4x192_d2_3 h_S_)

/-- The reference's first result is the staged attention output of its arguments. -/
theorem res_out0_eq (m : (ℓ : Loc nD τ sig) → Buf (Elt Ideal) ℓ) (c : Dev nD) :
    Value.res_out0 m c = outOf (softmax (allScores
      (cacheScores (m ((c.tc : Thread nD τ).loc main_arg0)) (m ((c.tc : Thread nD τ).loc main_arg3)) (m ((c.tc : Thread nD τ).loc main_arg4)))
      (newScores (m ((c.tc : Thread nD τ).loc main_arg0)) (m ((c.tc : Thread nD τ).loc main_arg1)))))
      (m ((c.tc : Thread nD τ).loc main_arg2)) (m ((c.tc : Thread nD τ).loc main_arg5)) (m ((c.tc : Thread nD τ).loc main_arg6)) := rfl

/-- The reference's second result is the staged update of the kept scores. -/
theorem res_out1_eq (m : (ℓ : Loc nD τ sig) → Buf (Elt Ideal) ℓ) (c : Dev nD) :
    Value.res_out1 m c = scoreOf (softmax (allScores
      (cacheScores (m ((c.tc : Thread nD τ).loc main_arg0)) (m ((c.tc : Thread nD τ).loc main_arg3)) (m ((c.tc : Thread nD τ).loc main_arg4)))
      (newScores (m ((c.tc : Thread nD τ).loc main_arg0)) (m ((c.tc : Thread nD τ).loc main_arg1)))))
      (m ((c.tc : Thread nD τ).loc main_arg7)) := rfl

section Values

variable (x : FVec Ideal S32x1x32x256 .bf16) (kn vn : FVec Ideal S32x1x4x256 .bf16) (kk kv : IVec S32x192x4x256 8)
  (ks vs : FVec Ideal S32x192x4 .f32)

/-- A code widened to 32 bits and converted has the code's value. -/
theorem code_of_wide (b : BitVec 8) : FloatOps.sitofp (F := Ideal) .f32 (BitVec.signExtend 32 b) = code b := by
  show (((BitVec.signExtend 32 b).toInt : ℝ) : EReal) = code b
  rw [BitVec.toInt_signExtend_of_le (by decide)]; rfl

/-- The kept rows' scores at an index. -/
theorem cacheScores_apply (b : Fin 32) (n : Fin 4) (g : Fin 8) (t : Fin 192) :
    cacheScores x kk ks (ix5 b n g 0 t) = score x kk ks b n g t := by
  pointwise [cacheScores, codes, score]
  simp only [code_of_wide]
  congr 1
  exact Finset.sum_congr rfl fun d _ => mul_comm _ _

/-- The new row's score at an index. -/
theorem newScores_apply (b : Fin 32) (n : Fin 4) (g : Fin 8) :
    newScores x kn (ix5 b n g 0 0) = newScore x kn b n g := by
  pointwise [newScores, newScore]
  refine (show ∀ u v : EReal, Scalar.select (IntOp.cmpi CmpIPredicate.sge 0#32 0#32) u v = u from fun u v => rfl) _ _ |>.trans ?_
  exact congrArg (· * sixteenth) (Finset.sum_congr rfl fun d _ => mul_comm _ _)

/-- The kept rows' scores among all scores. -/
theorem allScores_cache (s : FVec Ideal S32x4x8x1x192 .f32) (sn : FVec Ideal S32x4x8x1x1 .f32) (b : Fin 32) (n : Fin 4) (g : Fin 8) (t : Fin 192) :
    allScores s sn (ix5 b n g 0 ⟨t.val, by omega⟩) = s (ix5 b n g 0 t) := by
  pointwise [allScores]

/-- The new row's score among all scores. -/
theorem allScores_new (s : FVec Ideal S32x4x8x1x192 .f32) (sn : FVec Ideal S32x4x8x1x1 .f32) (b : Fin 32) (n : Fin 4) (g : Fin 8) :
    allScores s sn (ix5 b n g 0 192) = sn (ix5 b n g 0 0) := by
  pointwise [allScores]

/-- The largest score of a query row. -/
theorem maxima_apply (s : FVec Ideal S32x4x8x1x192 .f32) (sn : FVec Ideal S32x4x8x1x1 .f32) (b : Fin 32) (n : Fin 4) (g : Fin 8) :
    maxima (allScores s sn) (ix4 b n g 0) = maxOf (fun t => s (ix5 b n g 0 t)) (sn (ix5 b n g 0 0)) := by
  pointwise [maxima, ofBits_neg_inf]
  rw [max_eq_right bot_le, fold_max_two_halves 192 1 rfl]
  have h := allScores_new s sn b n g
  simp only [allScores_cache, Finset.univ_unique, Finset.fold_singleton, max_bot_right]
  exact congrArg (max _) h

/-- The exponentials at an index. -/
theorem exps_apply (a : FVec Ideal S32x4x8x1x193 .f32) (b : Fin 32) (n : Fin 4) (g : Fin 8) (t : Fin 193) :
    exps a (ix5 b n g 0 t) = Ideal.exp (a (ix5 b n g 0 t) - maxima a (ix4 b n g 0)) := by
  pointwise [exps]

/-- The softmax weights at an index. -/
theorem softmax_apply (a : FVec Ideal S32x4x8x1x193 .f32) (b : Fin 32) (n : Fin 4) (g : Fin 8) (t : Fin 193) :
    softmax a (ix5 b n g 0 t) = Ideal.div (exps a (ix5 b n g 0 t)) (∑ k : Fin 193, exps a (ix5 b n g 0 k)) := by
  pointwise [softmax]

/-- The softmax denominator of a query row. -/
theorem sum_exps (s : FVec Ideal S32x4x8x1x192 .f32) (sn : FVec Ideal S32x4x8x1x1 .f32) (b : Fin 32) (n : Fin 4) (g : Fin 8) :
    ∑ k : Fin 193, exps (allScores s sn) (ix5 b n g 0 k) = denom (fun t => s (ix5 b n g 0 t)) (sn (ix5 b n g 0 0)) := by
  rw [Fin.sum_univ_two_halves 192 1 rfl, Fin.sum_univ_one]
  have h := allScores_new s sn b n g
  simp only [exps_apply, maxima_apply, allScores_cache, denom]
  exact congrArg (fun z => _ + Ideal.exp (z - _)) h

/-- A kept row's softmax weight. -/
theorem softmax_cache (s : FVec Ideal S32x4x8x1x192 .f32) (sn : FVec Ideal S32x4x8x1x1 .f32) (b : Fin 32) (n : Fin 4) (g : Fin 8) (t : Fin 192) :
    softmax (allScores s sn) (ix5 b n g 0 ⟨t.val, by omega⟩) = prob (fun t => s (ix5 b n g 0 t)) (sn (ix5 b n g 0 0)) t := by
  rw [softmax_apply, sum_exps, exps_apply, maxima_apply, allScores_cache]; rfl

/-- The new row's softmax weight. -/
theorem softmax_new (s : FVec Ideal S32x4x8x1x192 .f32) (sn : FVec Ideal S32x4x8x1x1 .f32) (b : Fin 32) (n : Fin 4) (g : Fin 8) :
    softmax (allScores s sn) (ix5 b n g 0 192) = newProb (fun t => s (ix5 b n g 0 t)) (sn (ix5 b n g 0 0)) := by
  rw [softmax_apply, sum_exps, exps_apply, maxima_apply, allScores_new]; rfl

/-- The attention output at an index, from the weights. -/
theorem outOf_apply (p : FVec Ideal S32x4x8x1x193 .f32) (b : Fin 32) (n : Fin 4) (g : Fin 8) (d : Fin 256) :
    outOf p vn kv vs (ix3 b (row n g) d) =
      (∑ t : Fin 192, p (ix5 b n g 0 ⟨t.val, by omega⟩) * vs (ix3 b t n) * code (kv (ix4 b t n d)))
        + p (ix5 b n g 0 192) * vn (ix4 b 0 n d) := by
  pointwise [outOf, codes]
  have h1 : (⟨(row n g).val / 8, by omega⟩ : Fin 4) = n := Fin.ext (by simp only [row]; omega)
  have h2 : (⟨(row n g).val % 8, by omega⟩ : Fin 8) = g := Fin.ext (by simp only [row]; omega)
  simp only [h1, h2, code_of_wide, Fin.sum_univ_one]

/-- The updated kept scores at an index, from the weights. -/
theorem scoreOf_apply (p : FVec Ideal S32x4x8x1x193 .f32) (old : FVec Ideal S32x4x192 .f32) (b : Fin 32) (n : Fin 4) (t : Fin 192) :
    scoreOf p old (ix3 b n t) = old (ix3 b n t) + ∑ g : Fin 8, p (ix5 b n g 0 ⟨t.val, by omega⟩) := by
  pointwise [scoreOf]
  simp only [Fin.sum_univ_one]

/-- The reference's attention output is `Cert.Attention.out`. -/
theorem out_value (b : Fin 32) (n : Fin 4) (g : Fin 8) (d : Fin 256) :
    outOf (softmax (allScores (cacheScores x kk ks) (newScores x kn))) vn kv vs (ix3 b (row n g) d)
      = out x kn vn kk kv ks vs b n g d := by
  simp only [outOf_apply, softmax_cache, softmax_new, cacheScores_apply, newScores_apply, out]

/-- The reference's updated kept scores are `Cert.Attention.keptScore`. -/
theorem score_value (old : FVec Ideal S32x4x192 .f32) (b : Fin 32) (n : Fin 4) (t : Fin 192) :
    scoreOf (softmax (allScores (cacheScores x kk ks) (newScores x kn))) old (ix3 b n t)
      = keptScore x kn kk ks old b n t := by
  simp only [scoreOf_apply, softmax_cache, cacheScores_apply, newScores_apply, keptScore]

end Values

end Cert.ReferenceIdeal.Attend

end
-- ==== Proof.lean ====
module

public import proofs.«01_k».proof.Proof.Arrays
public import proofs.«01_k».proof.Proof.Reference
public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init

@[expose] public section

noncomputable section

namespace Cert.Proof

open Idealize.ShloMosaic Idealize.SL.Sem Idealize.ShloMosaic.TcCoe Cert.Attention

/-- The first result of the reference, on arguments that agree with the kernel's, is the kernel's first result. -/
theorem out_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_out0 m' c = Cert.KernelIdeal.Attend.outArray m c := by
  rw [Cert.ReferenceIdeal.Attend.res_out0_eq, h0, h1, h2, h3, h4, h5, h6]
  funext i
  obtain ⟨b, r, d, rfl⟩ : ∃ (b r : Fin 32) (d : Fin 256), i = ix3 b r d :=
    ⟨i 0, i 1, i 2, Cert.KernelIdeal.Attend.ix3_ext i _ _ _ rfl rfl rfl⟩
  obtain ⟨n, g, rfl⟩ := Cert.KernelIdeal.Attend.exists_row r
  exact (Cert.ReferenceIdeal.Attend.out_value _ _ _ _ _ _ _ b n g d).trans (Cert.KernelIdeal.Attend.outArray_apply m c b n g d).symm

/-- The second result of the reference, on arguments that agree with the kernel's, is the kernel's second result. -/
theorem score_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_out1 m' c = Cert.KernelIdeal.Attend.scoreArray m c := by
  rw [Cert.ReferenceIdeal.Attend.res_out1_eq, h0, h1, h3, h4, h7]
  funext i
  obtain ⟨b, n, t, rfl⟩ : ∃ (b : Fin 32) (n : Fin 4) (t : Fin 192), i = ix3 b n t :=
    ⟨i 0, i 1, i 2, Cert.KernelIdeal.Attend.ix3_ext i _ _ _ rfl rfl rfl⟩
  exact Cert.ReferenceIdeal.Attend.score_value _ _ _ _ _ b n t

/-- The reference runs, ends with its results and leaves its arguments as they were. -/
theorem quiescent_reference : Cert.quiescent_ReferenceIdeal (hReferenceIdeal := Cert.ReferenceIdeal.Gen.facts) :=
  fun m ρ _ => (θ_run Cert.ReferenceIdeal.defs _ _).mono
    (fun r h => ⟨fun c => (h c).2.2, Idealize.ShloMosaic.sem_eq_zero_of_no_sems (by decide) r.2⟩) (Cert.ReferenceIdeal.Value.run m ρ)

/-- The call's results are the reference's. -/
theorem algebraic : Cert.algebraic_KernelIdeal_ReferenceIdeal (hKernelIdeal := Cert.KernelIdeal.Gen.facts)
    (hReferenceIdeal := Cert.ReferenceIdeal.Gen.facts) := fun m ρ m' ρ' _ hag =>
  ⟨fun c => Cert.KernelIdeal.Attend.outArray m c, fun c => Cert.KernelIdeal.Attend.scoreArray m c,
    (θ_run _ _ _).mono (fun _ h c => ⟨(h c).1.trans (Cert.KernelIdeal.Attend.out_array m c),
      (h c).2.1.trans (Cert.KernelIdeal.Attend.score_array m c), (h c).2.2⟩) (Cert.KernelIdeal.Value.run_blocks m ρ),
    (θ_run _ _ _).mono (fun _ h c =>
      have ⟨h0, h1, h2, h3, h4, h5, h6, h7⟩ := hag c
      ⟨(h c).1.trans (out_agree m m' c h0 h1 h2 h3 h4 h5 h6), (h c).2.1.trans (score_agree m m' c h0 h1 h3 h4 h7), (h c).2.2⟩)
      (Cert.ReferenceIdeal.Value.run m' ρ')⟩

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_reference, trivial, algebraic⟩

end Cert.Proof

end
